-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v248) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x32 : Shape := ⟨3, ![8, 1024, 32]⟩
abbrev S8192x32 : Shape := ⟨2, ![8192, 32]⟩
abbrev S_ : Shape := ⟨0, ![]⟩

class Facts : Prop where
  bcast_S_S8x1024x32 : S_.BroadcastsInDim S8x1024x32 (![] : Fin 0 → Fin S8x1024x32.rank)
  bcast_S_S8192x32 : S_.BroadcastsInDim S8192x32 (![] : Fin 0 → Fin S8192x32.rank)

variable [Facts]

def fn {F : FTy → Type} [FloatOps F] (main_arg0 : FVec F S8x1024x32 .f32) (main_arg1 : FVec F S8192x32 .f32) : IVec S8x1024x32 1 × IVec S8192x32 1 :=
  let main_v0 : FVec F S8x1024x32 .f32 := Host.absf main_arg0
  let main_cst : FVec F S_ .f32 := constant S_ .f32 0x7F800000#32
  let main_v1 : FVec F S8x1024x32 .f32 := broadcastInDim S8x1024x32 ![] bcast_S_S8x1024x32 main_cst
  let main_v2 : IVec S8x1024x32 1 := cmpf .olt main_v0 main_v1
  let main_v3 : FVec F S8192x32 .f32 := Host.absf main_arg1
  let main_cst_0 : FVec F S_ .f32 := constant S_ .f32 0x7F800000#32
  let main_v4 : FVec F S8192x32 .f32 := broadcastInDim S8192x32 ![] bcast_S_S8192x32 main_cst_0
  let main_v5 : IVec S8192x32 1 := cmpf .olt main_v3 main_v4
  (main_v2, main_v5)
-- ==== Kernel.lean ====
abbrev S8x1024x32 : Shape := ⟨3, ![8, 1024, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S32x8192 : Shape := ⟨2, ![32, 8192]⟩
abbrev S128x8192 : Shape := ⟨2, ![128, 8192]⟩
abbrev S8192x8192 : Shape := ⟨2, ![8192, 8192]⟩
abbrev S64x1x1 : Shape := ⟨3, ![64, 1, 1]⟩
abbrev S128x32 : Shape := ⟨2, ![128, 32]⟩
abbrev S128x1 : Shape := ⟨2, ![128, 1]⟩
abbrev S1x1x1 : Shape := ⟨3, ![1, 1, 1]⟩
abbrev S128 : Shape := ⟨1, ![128]⟩
abbrev S1x128x32 : Shape := ⟨3, ![1, 128, 32]⟩
abbrev S1 : Shape := ⟨1, ![1]⟩

abbrev nBuf : Space → Nat
  | .hbm => 23
  | .vmem => 12
  | .smem => 0
  | _ => 0

abbrev bufTy : (tb : Table) → Fin (tcTables nBuf tb) → BufTy
  | .hbm, ⟨0, _⟩ => ⟨S8x1024x32, .f32⟩
  | .hbm, ⟨1, _⟩ => ⟨S8192x32, .f32⟩
  | .hbm, ⟨2, _⟩ => ⟨S8192x32, .f32⟩
  | .hbm, ⟨3, _⟩ => ⟨S8192x32, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S32x8192, .f32⟩
  | .hbm, ⟨12, _⟩ => ⟨S128x8192, .i32⟩
  | .hbm, ⟨13, _⟩ => ⟨S_, .i32⟩
  | .hbm, ⟨14, _⟩ => ⟨S128x8192, .i32⟩
  | .hbm, ⟨15, _⟩ => ⟨S128x8192, .i32⟩
  | .hbm, ⟨16, _⟩ => ⟨S128x8192, .i32⟩
  | .hbm, ⟨17, _⟩ => ⟨S128x8192, .i32⟩
  | .hbm, ⟨18, _⟩ => ⟨S8192x8192, .f32⟩
  | .hbm, ⟨19, _⟩ => ⟨S64x1x1, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S128x8192, .i32⟩
  | .local _ .vmem, ⟨1, _⟩ => ⟨S128x32, .f32⟩
  | .local _ .vmem, ⟨2, _⟩ => ⟨S128x32, .f32⟩
  | .local _ .vmem, ⟨3, _⟩ => ⟨S128x1, .f32⟩
  | .local _ .vmem, ⟨4, _⟩ => ⟨S128x1, .f32⟩
  | .local _ .vmem, ⟨5, _⟩ => ⟨S1x8192, .f32⟩
  | .local _ .vmem, ⟨6, _⟩ => ⟨S32x8192, .f32⟩
  | .local _ .vmem, ⟨7, _⟩ => ⟨S8192x32, .f32⟩
  | .local _ .vmem, ⟨8, _⟩ => ⟨S128x8192, .f32⟩
  | .local _ .vmem, ⟨9, _⟩ => ⟨S128x8192, .f32⟩
  | .local _ .vmem, ⟨10, _⟩ => ⟨S1x1x1, .f32⟩
  | .local _ .vmem, ⟨11, _⟩ => ⟨S1x1x1, .f32⟩
  | _, _ => ⟨S8x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x1024x32 : Shape := ⟨3, ![8, 1024, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩

abbrev nBuf : Space → Nat
  | .hbm => 339
  | .vmem => 0
  | .smem => 0
  | _ => 0

abbrev hbmTy0_0 (i : Nat) : BufTy := match i % 128 with
  | 0 => ⟨S8x1024x32, .f32⟩
  | 1 => ⟨S8192x32, .f32⟩
  | 2 => ⟨S8192x32, .f32⟩
  | 3 => ⟨S8192x32, .f32⟩
  | 4 => ⟨S_, .f32⟩
  | 5 => ⟨S8192, .f32⟩
  | 6 => ⟨S8192x1, .f32⟩
  | 7 => ⟨S8192x32, .f32⟩
  | 8 => ⟨S_, .f32⟩
  | 9 => ⟨S8192, .f32⟩
  | 10 => ⟨S1x8192, .f32⟩
  | 11 => ⟨S8192x8192, .f32⟩
  | 12 => ⟨S8192x8192, .f32⟩
  | 13 => ⟨S8192x8192, .f32⟩
  | 14 => ⟨S32x8192, .f32⟩
  | 15 => ⟨S8192x8192, .f32⟩
  | 16 => ⟨S_, .f32⟩
  | 17 => ⟨S8192x8192, .f32⟩
  | 18 => ⟨S8192x8192, .f32⟩
  | 19 => ⟨S8192x8192, .f32⟩
  | 20 => ⟨S_, .f32⟩
  | 21 => ⟨S8192x8192, .f32⟩
  | 22 => ⟨S8192x8192, .f32⟩
  | 23 => ⟨S8192x8192, .f32⟩
  | 24 => ⟨S8192x8192, .f32⟩
  | 25 => ⟨S_, .f32⟩
  | 26 => ⟨S8192x8192, .f32⟩
  | 27 => ⟨S8192x8192, .f32⟩
  | 28 => ⟨S8192x8192, .i32⟩
  | 29 => ⟨S_, .i32⟩
  | 30 => ⟨S8192x8192, .i32⟩
  | 31 => ⟨S8192x8192, .i32⟩
  | 32 => ⟨S8192x8192, .i32⟩
  | 33 => ⟨S8192x8192, .i32⟩
  | 34 => ⟨S_, .i32⟩
  | 35 => ⟨S8192x8192, .i32⟩
  | 36 => ⟨S_, .i32⟩
  | 37 => ⟨S8192x8192, .i32⟩
  | 38 => ⟨S8192x8192, .i32⟩
  | 39 => ⟨S_, .i32⟩
  | 40 => ⟨S8192x8192, .i32⟩
  | 41 => ⟨S8192x8192, .i32⟩
  | 42 => ⟨S8192x8192, .i32⟩
  | 43 => ⟨S_, .i32⟩
  | 44 => ⟨S8192x8192, .i32⟩
  | 45 => ⟨S8192x8192, .i32⟩
  | 46 => ⟨S_, .i32⟩
  | 47 => ⟨S8192x8192, .i32⟩
  | 48 => ⟨S8192x8192, .i32⟩
  | 49 => ⟨S8192x8192, .i32⟩
  | 50 => ⟨S8192x8192, .i32⟩
  | 51 => ⟨S8192x8192, .i32⟩
  | 52 => ⟨S_, .i32⟩
  | 53 => ⟨S8192x8192, .i32⟩
  | 54 => ⟨S8192x8192, .i32⟩
  | 55 => ⟨S_, .i32⟩
  | 56 => ⟨S8192x8192, .i32⟩
  | 57 => ⟨S8192x8192, .i32⟩
  | 58 => ⟨S8192x8192, .i32⟩
  | 59 => ⟨S8192x8192, .i32⟩
  | 60 => ⟨S8192x8192, .i32⟩
  | 61 => ⟨S_, .i32⟩
  | 62 => ⟨S8192x8192, .i32⟩
  | 63 => ⟨S8192x8192, .i32⟩
  | 64 => ⟨S_, .i32⟩
  | 65 => ⟨S8192x8192, .i32⟩
  | 66 => ⟨S8192x8192, .i32⟩
  | 67 => ⟨S8192x8192, .i32⟩
  | 68 => ⟨S8192x8192, .i32⟩
  | 69 => ⟨S8192x8192, .i32⟩
  | 70 => ⟨S_, .i32⟩
  | 71 => ⟨S8192x8192, .i32⟩
  | 72 => ⟨S8192x8192, .i32⟩
  | 73 => ⟨S_, .i32⟩
  | 74 => ⟨S8192x8192, .i32⟩
  | 75 => ⟨S8192x8192, .i32⟩
  | 76 => ⟨S8192x8192, .i32⟩
  | 77 => ⟨S8192x8192, .i32⟩
  | 78 => ⟨S_, .i32⟩
  | 79 => ⟨S8192x8192, .i32⟩
  | 80 => ⟨S8192x8192, .i32⟩
  | 81 => ⟨S_, .i32⟩
  | 82 => ⟨S8192x8192, .i32⟩
  | 83 => ⟨S8192x8192, .i32⟩
  | 84 => ⟨S_, .i32⟩
  | 85 => ⟨S8192x8192, .i32⟩
  | 86 => ⟨S8192x8192, .i32⟩
  | 87 => ⟨S8192x8192, .i32⟩
  | 88 => ⟨S_, .i32⟩
  | 89 => ⟨S8192x8192, .i32⟩
  | 90 => ⟨S8192x8192, .i32⟩
  | 91 => ⟨S_, .i32⟩
  | 92 => ⟨S8192x8192, .i32⟩
  | 93 => ⟨S8192x8192, .i32⟩
  | 94 => ⟨S8192x8192, .i32⟩
  | 95 => ⟨S8192x8192, .i32⟩
  | 96 => ⟨S8192x8192, .i32⟩
  | 97 => ⟨S_, .i32⟩
  | 98 => ⟨S8192x8192, .i32⟩
  | 99 => ⟨S8192x8192, .i32⟩
  | 100 => ⟨S_, .i32⟩
  | 101 => ⟨S8192x8192, .i32⟩
  | 102 => ⟨S8192x8192, .i32⟩
  | 103 => ⟨S8192x8192, .i32⟩
  | 104 => ⟨S8192x8192, .i32⟩
  | 105 => ⟨S8192x8192, .i32⟩
  | 106 => ⟨S_, .i32⟩
  | 107 => ⟨S8192x8192, .i32⟩
  | 108 => ⟨S8192x8192, .i32⟩
  | 109 => ⟨S_, .i32⟩
  | 110 => ⟨S8192x8192, .i32⟩
  | 111 => ⟨S8192x8192, .i32⟩
  | 112 => ⟨S8192x8192, .i32⟩
  | 113 => ⟨S8192x8192, .i32⟩
  | 114 => ⟨S8192x8192, .i32⟩
  | 115 => ⟨S_, .i32⟩
  | 116 => ⟨S8192x8192, .i32⟩
  | 117 => ⟨S8192x8192, .i32⟩
  | 118 => ⟨S_, .i32⟩
  | 119 => ⟨S8192x8192, .i32⟩
  | 120 => ⟨S8192x8192, .i32⟩
  | 121 => ⟨S8192x8192, .i32⟩
  | 122 => ⟨S8192x8192, .i32⟩
  | 123 => ⟨S_, .i32⟩
  | 124 => ⟨S8192x8192, .i32⟩
  | 125 => ⟨S8192x8192, .i32⟩
  | 126 => ⟨S_, .i32⟩
  | 127 => ⟨S8192x8192, .i32⟩
  | _ => ⟨S8x1024x32, .f32⟩

abbrev hbmTy0_1 (i : Nat) : BufTy := match i % 128 with
  | 0 => ⟨S8192x8192, .i32⟩
  | 1 => ⟨S_, .i32⟩
  | 2 => ⟨S8192x8192, .i32⟩
  | 3 => ⟨S8192x8192, .i32⟩
  | 4 => ⟨S8192x8192, .i32⟩
  | 5 => ⟨S_, .i32⟩
  | 6 => ⟨S8192x8192, .i32⟩
  | 7 => ⟨S8192x8192, .i32⟩
  | 8 => ⟨S_, .i32⟩
  | 9 => ⟨S8192x8192, .i32⟩
  | 10 => ⟨S8192x8192, .i32⟩
  | 11 => ⟨S8192x8192, .i32⟩
  | 12 => ⟨S8192x8192, .i32⟩
  | 13 => ⟨S8192x8192, .i32⟩
  | 14 => ⟨S_, .i32⟩
  | 15 => ⟨S8192x8192, .i32⟩
  | 16 => ⟨S8192x8192, .i32⟩
  | 17 => ⟨S_, .i32⟩
  | 18 => ⟨S8192x8192, .i32⟩
  | 19 => ⟨S8192x8192, .i32⟩
  | 20 => ⟨S8192x8192, .i32⟩
  | 21 => ⟨S8192x8192, .i32⟩
  | 22 => ⟨S8192x8192, .i32⟩
  | 23 => ⟨S_, .i32⟩
  | 24 => ⟨S8192x8192, .i32⟩
  | 25 => ⟨S8192x8192, .i32⟩
  | 26 => ⟨S_, .i32⟩
  | 27 => ⟨S8192x8192, .i32⟩
  | 28 => ⟨S8192x8192, .i32⟩
  | 29 => ⟨S8192x8192, .i32⟩
  | 30 => ⟨S8192x8192, .i32⟩
  | 31 => ⟨S8192x8192, .i32⟩
  | 32 => ⟨S_, .i32⟩
  | 33 => ⟨S8192x8192, .i32⟩
  | 34 => ⟨S8192x8192, .i32⟩
  | 35 => ⟨S_, .i32⟩
  | 36 => ⟨S8192x8192, .i32⟩
  | 37 => ⟨S8192x8192, .i32⟩
  | 38 => ⟨S8192x8192, .i32⟩
  | 39 => ⟨S8192x8192, .i32⟩
  | 40 => ⟨S_, .i32⟩
  | 41 => ⟨S8192x8192, .i32⟩
  | 42 => ⟨S8192x8192, .i32⟩
  | 43 => ⟨S_, .i32⟩
  | 44 => ⟨S8192x8192, .i32⟩
  | 45 => ⟨S8192x8192, .i32⟩
  | 46 => ⟨S_, .i32⟩
  | 47 => ⟨S8192x8192, .i32⟩
  | 48 => ⟨S8192x8192, .i32⟩
  | 49 => ⟨S8192x8192, .i32⟩
  | 50 => ⟨S_, .i32⟩
  | 51 => ⟨S8192x8192, .i32⟩
  | 52 => ⟨S8192x8192, .i32⟩
  | 53 => ⟨S_, .i32⟩
  | 54 => ⟨S8192x8192, .i32⟩
  | 55 => ⟨S8192x8192, .i32⟩
  | 56 => ⟨S8192x8192, .i32⟩
  | 57 => ⟨S8192x8192, .i32⟩
  | 58 => ⟨S8192x8192, .i32⟩
  | 59 => ⟨S_, .i32⟩
  | 60 => ⟨S8192x8192, .i32⟩
  | 61 => ⟨S8192x8192, .i32⟩
  | 62 => ⟨S_, .i32⟩
  | 63 => ⟨S8192x8192, .i32⟩
  | 64 => ⟨S8192x8192, .i32⟩
  | 65 => ⟨S8192x8192, .i32⟩
  | 66 => ⟨S8192x8192, .i32⟩
  | 67 => ⟨S8192x8192, .i32⟩
  | 68 => ⟨S_, .i32⟩
  | 69 => ⟨S8192x8192, .i32⟩
  | 70 => ⟨S8192x8192, .i32⟩
  | 71 => ⟨S_, .i32⟩
  | 72 => ⟨S8192x8192, .i32⟩
  | 73 => ⟨S8192x8192, .i32⟩
  | 74 => ⟨S8192x8192, .i32⟩
  | 75 => ⟨S8192x8192, .i32⟩
  | 76 => ⟨S8192x8192, .i32⟩
  | 77 => ⟨S_, .i32⟩
  | 78 => ⟨S8192x8192, .i32⟩
  | 79 => ⟨S8192x8192, .i32⟩
  | 80 => ⟨S_, .i32⟩
  | 81 => ⟨S8192x8192, .i32⟩
  | 82 => ⟨S8192x8192, .i32⟩
  | 83 => ⟨S8192x8192, .i32⟩
  | 84 => ⟨S8192x8192, .i32⟩
  | 85 => ⟨S_, .i32⟩
  | 86 => ⟨S8192x8192, .i32⟩
  | 87 => ⟨S8192x8192, .i32⟩
  | 88 => ⟨S_, .i32⟩
  | 89 => ⟨S8192x8192, .i32⟩
  | 90 => ⟨S8192x8192, .i32⟩
  | 91 => ⟨S_, .i32⟩
  | 92 => ⟨S8192x8192, .i32⟩
  | 93 => ⟨S8192x8192, .i32⟩
  | 94 => ⟨S8192x8192, .i32⟩
  | 95 => ⟨S_, .i32⟩
  | 96 => ⟨S8192x8192, .i32⟩
  | 97 => ⟨S8192x8192, .i32⟩
  | 98 => ⟨S_, .i32⟩
  | 99 => ⟨S8192x8192, .i32⟩
  | 100 => ⟨S8192x8192, .i32⟩
  | 101 => ⟨S8192x8192, .i32⟩
  | 102 => ⟨S8192x8192, .i32⟩
  | 103 => ⟨S8192x8192, .i32⟩
  | 104 => ⟨S_, .i32⟩
  | 105 => ⟨S8192x8192, .i32⟩
  | 106 => ⟨S8192x8192, .i32⟩
  | 107 => ⟨S_, .i32⟩
  | 108 => ⟨S8192x8192, .i32⟩
  | 109 => ⟨S8192x8192, .i32⟩
  | 110 => ⟨S8192x8192, .i32⟩
  | 111 => ⟨S8192x8192, .i32⟩
  | 112 => ⟨S8192x8192, .i32⟩
  | 113 => ⟨S_, .i32⟩
  | 114 => ⟨S8192x8192, .i32⟩
  | 115 => ⟨S8192x8192, .i32⟩
  | 116 => ⟨S_, .i32⟩
  | 117 => ⟨S8192x8192, .i32⟩
  | 118 => ⟨S8192x8192, .i32⟩
  | 119 => ⟨S8192x8192, .i32⟩
  | 120 => ⟨S8192x8192, .i32⟩
  | 121 => ⟨S8192x8192, .i32⟩
  | 122 => ⟨S_, .i32⟩
  | 123 => ⟨S8192x8192, .i32⟩
  | 124 => ⟨S8192x8192, .i32⟩
  | 125 => ⟨S_, .i32⟩
  | 126 => ⟨S8192x8192, .i32⟩
  | 127 => ⟨S8192x8192, .i32⟩
  | _ => ⟨S8x1024x32, .f32⟩

abbrev hbmTy0_2 (i : Nat) : BufTy := match i % 128 with
  | 0 => ⟨S8192x8192, .i32⟩
  | 1 => ⟨S8192x8192, .i32⟩
  | 2 => ⟨S_, .i32⟩
  | 3 => ⟨S8192x8192, .i32⟩
  | 4 => ⟨S8192x8192, .i32⟩
  | 5 => ⟨S_, .i32⟩
  | 6 => ⟨S8192x8192, .i32⟩
  | 7 => ⟨S8192x8192, .i32⟩
  | 8 => ⟨S_, .i32⟩
  | 9 => ⟨S8192x8192, .i32⟩
  | 10 => ⟨S8192x8192, .i32⟩
  | 11 => ⟨S8192x8192, .i32⟩
  | 12 => ⟨S_, .i32⟩
  | 13 => ⟨S8192x8192, .i32⟩
  | 14 => ⟨S8192x8192, .i32⟩
  | 15 => ⟨S_, .i32⟩
  | 16 => ⟨S8192x8192, .i32⟩
  | 17 => ⟨S8192x8192, .i32⟩
  | 18 => ⟨S8192x8192, .f32⟩
  | 19 => ⟨S_, .f32⟩
  | 20 => ⟨S8192x8192, .f32⟩
  | 21 => ⟨S8192x8192, .f32⟩
  | 22 => ⟨S_, .f32⟩
  | 23 => ⟨S8192x8192, .f32⟩
  | 24 => ⟨S8192x8192, .f32⟩
  | 25 => ⟨S_, .f32⟩
  | 26 => ⟨S8192x8192, .f32⟩
  | 27 => ⟨S8192x8192, .f32⟩
  | 28 => ⟨S_, .f32⟩
  | 29 => ⟨S8192x8192, .f32⟩
  | 30 => ⟨S8192x8192, .f32⟩
  | 31 => ⟨S8192x8192, .f32⟩
  | 32 => ⟨S8192x8192, .f32⟩
  | 33 => ⟨S8192x8192, .f32⟩
  | 34 => ⟨S8192x8192, .f32⟩
  | 35 => ⟨S8192x8192, .f32⟩
  | 36 => ⟨S_, .f32⟩
  | 37 => ⟨S8192x8192, .f32⟩
  | 38 => ⟨S8192x8192, .f32⟩
  | 39 => ⟨S_, .f32⟩
  | 40 => ⟨S8192, .f32⟩
  | 41 => ⟨S_, .f32⟩
  | 42 => ⟨S8192, .f32⟩
  | 43 => ⟨S8192, .f32⟩
  | 44 => ⟨S8192x1, .f32⟩
  | 45 => ⟨S8192x8192, .f32⟩
  | 46 => ⟨S8192x8192, .f32⟩
  | 47 => ⟨S8192x8192, .f32⟩
  | 48 => ⟨S_, .f32⟩
  | 49 => ⟨S8192, .f32⟩
  | 50 => ⟨S8192x1, .f32⟩
  | 51 => ⟨S8192x8192, .f32⟩
  | 52 => ⟨S8192x8192, .f32⟩
  | 53 => ⟨S8192x8192, .i32⟩
  | 54 => ⟨S_, .f32⟩
  | 55 => ⟨S_, .i32⟩
  | 56 => ⟨S8192, .f32⟩
  | 57 => ⟨S8192, .i32⟩
  | 58 => ⟨S8192x1, .i32⟩
  | 59 => ⟨S1x8192, .i32⟩
  | 60 => ⟨S8192x8192, .i32⟩
  | 61 => ⟨S8192x8192, .i32⟩
  | 62 => ⟨S8192x8192, .i1⟩
  | 63 => ⟨S8192x8192, .f32⟩
  | 64 => ⟨S8192x8192, .f32⟩
  | 65 => ⟨S8192x8192, .f32⟩
  | 66 => ⟨S8192x32, .f32⟩
  | 67 => ⟨S8192x32, .f32⟩
  | 68 => ⟨S8192x32, .f32⟩
  | 69 => ⟨S_, .f32⟩
  | 70 => ⟨S_, .f32⟩
  | 71 => ⟨S_, .f32⟩
  | 72 => ⟨S_, .f32⟩
  | 73 => ⟨S8192x32, .f32⟩
  | 74 => ⟨S8192x32, .f32⟩
  | 75 => ⟨S8192x32, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | _ => ⟨S8x1024x32, .f32⟩

abbrev hbmTy (i : Nat) : BufTy := match i / 128 with
  | 0 => hbmTy0_0 i
  | 1 => hbmTy0_1 i
  | 2 => hbmTy0_2 i
  | _ => ⟨S8x1024x32, .f32⟩

abbrev bufTy : (tb : Table) → Fin (tcTables nBuf tb) → BufTy
  | .hbm, ⟨i, _⟩ => hbmTy i
  | _, _ => ⟨S8x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_9 : Ref sig .tc := ⟨.hbm, 52, rfl⟩
abbrev main_v39 : Ref sig .tc := ⟨.hbm, 53, rfl⟩
abbrev main_v40 : Ref sig .tc := ⟨.hbm, 54, rfl⟩
abbrev main_c_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_11 : Ref sig .tc := ⟨.hbm, 61, rfl⟩
abbrev main_v46 : Ref sig .tc := ⟨.hbm, 62, rfl⟩
abbrev main_v47 : Ref sig .tc := ⟨.hbm, 63, rfl⟩
abbrev main_c_12 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_13 : Ref sig .tc := ⟨.hbm, 70, rfl⟩
abbrev main_v53 : Ref sig .tc := ⟨.hbm, 71, rfl⟩
abbrev main_v54 : Ref sig .tc := ⟨.hbm, 72, rfl⟩
abbrev main_c_14 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_15 : Ref sig .tc := ⟨.hbm, 78, rfl⟩
abbrev main_v59 : Ref sig .tc := ⟨.hbm, 79, rfl⟩
abbrev main_v60 : Ref sig .tc := ⟨.hbm, 80, rfl⟩
abbrev main_c_16 : Ref sig .tc := ⟨.hbm, 81, rfl⟩
abbrev main_v61 : Ref sig .tc := ⟨.hbm, 82, rfl⟩
abbrev main_v62 : Ref sig .tc := ⟨.hbm, 83, rfl⟩
abbrev main_c_17 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_18 : Ref sig .tc := ⟨.hbm, 88, rfl⟩
abbrev main_v66 : Ref sig .tc := ⟨.hbm, 89, rfl⟩
abbrev main_v67 : Ref sig .tc := ⟨.hbm, 90, rfl⟩
abbrev main_c_19 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_20 : Ref sig .tc := ⟨.hbm, 97, rfl⟩
abbrev main_v73 : Ref sig .tc := ⟨.hbm, 98, rfl⟩
abbrev main_v74 : Ref sig .tc := ⟨.hbm, 99, rfl⟩
abbrev main_c_21 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_22 : Ref sig .tc := ⟨.hbm, 106, rfl⟩
abbrev main_v80 : Ref sig .tc := ⟨.hbm, 107, rfl⟩
abbrev main_v81 : Ref sig .tc := ⟨.hbm, 108, rfl⟩
abbrev main_c_23 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_24 : Ref sig .tc := ⟨.hbm, 115, rfl⟩
abbrev main_v87 : Ref sig .tc := ⟨.hbm, 116, rfl⟩
abbrev main_v88 : Ref sig .tc := ⟨.hbm, 117, rfl⟩
abbrev main_c_25 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_26 : Ref sig .tc := ⟨.hbm, 123, rfl⟩
abbrev main_v93 : Ref sig .tc := ⟨.hbm, 124, rfl⟩
abbrev main_v94 : Ref sig .tc := ⟨.hbm, 125, rfl⟩
abbrev main_c_27 : Ref sig .tc := ⟨.hbm, 126, rfl⟩
abbrev main_v95 : Ref sig .tc := ⟨.hbm, 127, rfl⟩
abbrev main_v96 : Ref sig .tc := ⟨.hbm, 128, rfl⟩
abbrev main_c_28 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_29 : Ref sig .tc := ⟨.hbm, 133, rfl⟩
abbrev main_v100 : Ref sig .tc := ⟨.hbm, 134, rfl⟩
abbrev main_v101 : Ref sig .tc := ⟨.hbm, 135, rfl⟩
abbrev main_c_30 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_31 : Ref sig .tc := ⟨.hbm, 142, rfl⟩
abbrev main_v107 : Ref sig .tc := ⟨.hbm, 143, rfl⟩
abbrev main_v108 : Ref sig .tc := ⟨.hbm, 144, rfl⟩
abbrev main_c_32 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_33 : Ref sig .tc := ⟨.hbm, 151, rfl⟩
abbrev main_v114 : Ref sig .tc := ⟨.hbm, 152, rfl⟩
abbrev main_v115 : Ref sig .tc := ⟨.hbm, 153, rfl⟩
abbrev main_c_34 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_35 : Ref sig .tc := ⟨.hbm, 160, rfl⟩
abbrev main_v121 : Ref sig .tc := ⟨.hbm, 161, rfl⟩
abbrev main_v122 : Ref sig .tc := ⟨.hbm, 162, rfl⟩
abbrev main_c_36 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_37 : Ref sig .tc := ⟨.hbm, 168, rfl⟩
abbrev main_v127 : Ref sig .tc := ⟨.hbm, 169, rfl⟩
abbrev main_v128 : Ref sig .tc := ⟨.hbm, 170, rfl⟩
abbrev main_c_38 : Ref sig .tc := ⟨.hbm, 171, rfl⟩
abbrev main_v129 : Ref sig .tc := ⟨.hbm, 172, rfl⟩
abbrev main_v130 : Ref sig .tc := ⟨.hbm, 173, rfl⟩
abbrev main_c_39 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_40 : Ref sig .tc := ⟨.hbm, 178, rfl⟩
abbrev main_v134 : Ref sig .tc := ⟨.hbm, 179, rfl⟩
abbrev main_v135 : Ref sig .tc := ⟨.hbm, 180, rfl⟩
abbrev main_c_41 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_42 : Ref sig .tc := ⟨.hbm, 187, rfl⟩
abbrev main_v141 : Ref sig .tc := ⟨.hbm, 188, rfl⟩
abbrev main_v142 : Ref sig .tc := ⟨.hbm, 189, rfl⟩
abbrev main_c_43 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_c_44 : Ref sig .tc := ⟨.hbm, 196, rfl⟩
abbrev main_v148 : Ref sig .tc := ⟨.hbm, 197, rfl⟩
abbrev main_v149 : Ref sig .tc := ⟨.hbm, 198, rfl⟩
abbrev main_c_45 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_c_46 : Ref sig .tc := ⟨.hbm, 205, rfl⟩
abbrev main_v155 : Ref sig .tc := ⟨.hbm, 206, rfl⟩
abbrev main_v156 : Ref sig .tc := ⟨.hbm, 207, rfl⟩
abbrev main_c_47 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_c_48 : Ref sig .tc := ⟨.hbm, 213, rfl⟩
abbrev main_v161 : Ref sig .tc := ⟨.hbm, 214, rfl⟩
abbrev main_v162 : Ref sig .tc := ⟨.hbm, 215, rfl⟩
abbrev main_c_49 : Ref sig .tc := ⟨.hbm, 216, rfl⟩
abbrev main_v163 : Ref sig .tc := ⟨.hbm, 217, rfl⟩
abbrev main_v164 : Ref sig .tc := ⟨.hbm, 218, rfl⟩
abbrev main_c_50 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_51 : Ref sig .tc := ⟨.hbm, 223, rfl⟩
abbrev main_v168 : Ref sig .tc := ⟨.hbm, 224, rfl⟩
abbrev main_v169 : Ref sig .tc := ⟨.hbm, 225, rfl⟩
abbrev main_c_52 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_53 : Ref sig .tc := ⟨.hbm, 232, rfl⟩
abbrev main_v175 : Ref sig .tc := ⟨.hbm, 233, rfl⟩
abbrev main_v176 : Ref sig .tc := ⟨.hbm, 234, rfl⟩
abbrev main_c_54 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_c_55 : Ref sig .tc := ⟨.hbm, 241, rfl⟩
abbrev main_v182 : Ref sig .tc := ⟨.hbm, 242, rfl⟩
abbrev main_v183 : Ref sig .tc := ⟨.hbm, 243, rfl⟩
abbrev main_c_56 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_c_57 : Ref sig .tc := ⟨.hbm, 250, rfl⟩
abbrev main_v189 : Ref sig .tc := ⟨.hbm, 251, rfl⟩
abbrev main_v190 : Ref sig .tc := ⟨.hbm, 252, rfl⟩
abbrev main_c_58 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_c_59 : Ref sig .tc := ⟨.hbm, 258, rfl⟩
abbrev main_v195 : Ref sig .tc := ⟨.hbm, 259, rfl⟩
abbrev main_v196 : Ref sig .tc := ⟨.hbm, 260, rfl⟩
abbrev main_c_60 : Ref sig .tc := ⟨.hbm, 261, rfl⟩
abbrev main_v197 : Ref sig .tc := ⟨.hbm, 262, rfl⟩
abbrev main_v198 : Ref sig .tc := ⟨.hbm, 263, rfl⟩
abbrev main_c_61 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_c_62 : Ref sig .tc := ⟨.hbm, 268, rfl⟩
abbrev main_v202 : Ref sig .tc := ⟨.hbm, 269, rfl⟩
abbrev main_v203 : Ref sig .tc := ⟨.hbm, 270, rfl⟩
abbrev main_c_63 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_cst_64 : Ref sig .tc := ⟨.hbm, 275, rfl⟩
abbrev main_v207 : Ref sig .tc := ⟨.hbm, 276, rfl⟩
abbrev main_v208 : Ref sig .tc := ⟨.hbm, 277, rfl⟩
abbrev main_cst_65 : Ref sig .tc := ⟨.hbm, 278, rfl⟩
abbrev main_v209 : Ref sig .tc := ⟨.hbm, 279, rfl⟩
abbrev main_v210 : Ref sig .tc := ⟨.hbm, 280, rfl⟩
abbrev main_cst_66 : Ref sig .tc := ⟨.hbm, 281, rfl⟩
abbrev main_v211 : Ref sig .tc := ⟨.hbm, 282, rfl⟩
abbrev main_v212 : Ref sig .tc := ⟨.hbm, 283, rfl⟩
abbrev main_cst_67 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_cst_68 : Ref sig .tc := ⟨.hbm, 292, rfl⟩
abbrev main_v220 : Ref sig .tc := ⟨.hbm, 293, rfl⟩
abbrev main_v221 : Ref sig .tc := ⟨.hbm, 294, rfl⟩
abbrev main_cst_69 : Ref sig .tc := ⟨.hbm, 295, rfl⟩
abbrev main_v222 : Ref sig .tc := ⟨.hbm, 296, rfl⟩
abbrev main_cst_70 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_cst_71 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_call0_v0 : Ref sig .tc := ⟨.hbm, 309, rfl⟩
abbrev main_call0_cst : Ref sig .tc := ⟨.hbm, 310, rfl⟩
abbrev main_call0_c : Ref sig .tc := ⟨.hbm, 311, rfl⟩
abbrev main_call0_v1_0 : Ref sig .tc := ⟨.hbm, 312, rfl⟩
abbrev main_v233 : Ref sig .tc := ⟨.hbm, 313, rfl⟩
abbrev main_call1_v0 : Ref sig .tc := ⟨.hbm, 314, rfl⟩
abbrev main_call1_v1 : Ref sig .tc := ⟨.hbm, 315, rfl⟩
abbrev main_call1_v2 : Ref sig .tc := ⟨.hbm, 316, rfl⟩
abbrev main_call1_v3 : Ref sig .tc := ⟨.hbm, 317, rfl⟩
abbrev main_call1_v4 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_cst_72 : Ref sig .tc := ⟨.hbm, 325, rfl⟩
abbrev main_v240 : Ref sig .tc := ⟨.hbm, 326, rfl⟩
abbrev main_cst_73 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_cst_74 : Ref sig .tc := ⟨.hbm, 332, rfl⟩
abbrev main_v245 : Ref sig .tc := ⟨.hbm, 333, rfl⟩
abbrev main_cst_75 : Ref sig .tc := ⟨.hbm, 334, rfl⟩
abbrev main_v246 : Ref sig .tc := ⟨.hbm, 335, rfl⟩
abbrev main_cst_76 : Ref sig .tc := ⟨.hbm, 336, rfl⟩
abbrev main_v247 : Ref sig .tc := ⟨.hbm, 337, rfl⟩
abbrev main_v248 : Ref sig .tc := ⟨.hbm, 338, rfl⟩

abbrev nD : Nat := 1
abbrev τ : Topo := Topo.v7x

variable {F : FTy → Type} [FloatOps F]
-- ==== Proof.Words.lean ====
/- The random words on their own: the twenty rounds of the Threefry-2x32 cipher on a pair of 32-bit words, as a function
   of the counter, and how one round reads at an index of a vector, in a kernel and on the host. -/
module

public import Idealize.ShloMosaic.PureOps.Ideal.Laws

@[expose] public section

namespace Cert.Words

open Idealize.ShloMosaic

/-- A pair of words, the cipher's state. -/
abbrev Pair := BitVec 32 × BitVec 32

/-- The word `x` turned left by `r` bits, `r'` being what is left of the 32. -/
def rot (r r' x : BitVec 32) : BitVec 32 := (x <<< r) ||| (x >>> r')

/-- One round: the first word becomes the sum, the second is turned and combined with it. -/
def mix (r r' : BitVec 32) (s : Pair) : Pair := (s.1 + s.2, (s.1 + s.2) ^^^ rot r r' s.2)

/-- The key schedule's step after each fourth round. -/
def inject (a b : BitVec 32) (s : Pair) : Pair := (s.1 + a, s.2 + b)

/-- The four rounds of the odd groups, the last of them joined with the key step. -/
def groupA (a b : BitVec 32) (s : Pair) : Pair :=
  inject a b (mix 6#32 26#32 (mix 26#32 6#32 (mix 15#32 17#32 (mix 13#32 19#32 s))))

/-- The four rounds of the even groups, the last of them joined with the key step. -/
def groupB (a b : BitVec 32) (s : Pair) : Pair :=
  inject a b (mix 24#32 8#32 (mix 16#32 16#32 (mix 29#32 3#32 (mix 17#32 15#32 s))))

/-- The state before the first round: the counter `p` in the second word, the key added. -/
def start (p : BitVec 32) : Pair := (2247515013#32, p + 2545468385#32)

/-- The state after one, two, three and four groups. -/
def state1 (p : BitVec 32) : Pair := groupA 2545468385#32 161448895#32 (start p)
def state2 (p : BitVec 32) : Pair := groupB 161448894#32 2247515015#32 (state1 p)
def state3 (p : BitVec 32) : Pair := groupA 2247515013#32 2545468388#32 (state2 p)
def state4 (p : BitVec 32) : Pair := groupB 2545468385#32 161448898#32 (state3 p)
/-- The cipher's result at the counter `p`. -/
def state5 (p : BitVec 32) : Pair := groupA 161448894#32 2247515018#32 (state4 p)

/-- The twenty-three random bits at the counter `p`. -/
def bits (p : BitVec 32) : BitVec 32 := ((state5 p).1 ^^^ (state5 p).2) >>> 9#32

/-! ## A round at an index of a vector -/

section
variable {s : Shape} {j : s.Idx} {x y b c : IVec s 32} {r r' k k' w : BitVec 32} {q : Pair}

/-- A kernel's shift to the left by a splat below the width. -/
theorem shli_at (hx : x j = w) (hy : y j = r) (hr : r.toNat < 32) : shli x y j = w <<< r := by
  show IntOp.shli .vector (x j) (y j) = _
  rw [hx, hy]; exact if_pos hr
/-- A kernel's shift to the right by a splat below the width. -/
theorem shrui_at (hx : x j = w) (hy : y j = r) (hr : r.toNat < 32) : shrui x y j = w >>> r := by
  show IntOp.shrui .vector (x j) (y j) = _
  rw [hx, hy]; exact if_pos hr
/-- The host's shift to the left by a splat below the width. -/
theorem hostShli_at (hx : x j = w) (hy : y j = r) (hr : r.toNat < 32) : Host.shli x y j = w <<< r := by
  show IntOp.shli .host (x j) (y j) = _
  rw [hx, hy]; exact if_pos hr
/-- The host's shift to the right by a splat below the width. -/
theorem hostShrui_at (hx : x j = w) (hy : y j = r) (hr : r.toNat < 32) : Host.shrui x y j = w >>> r := by
  show IntOp.shrui .host (x j) (y j) = _
  rw [hx, hy]; exact if_pos hr

/-- The second word after a round, from its two shifts and the sum. -/
theorem turn_at (hc : c j = q.1 + q.2) (hx : x j = q.2 <<< r) (hy : y j = q.2 >>> r') :
    xori c (ori x y) j = (mix r r' q).2 := by
  show c j ^^^ (x j ||| y j) = _
  rw [hc, hx, hy]; rfl
/-- The same with the operands in the other order. -/
theorem turn_at' (hc : c j = q.1 + q.2) (hx : x j = q.2 <<< r) (hy : y j = q.2 >>> r') :
    xori (ori x y) c j = (mix r r' q).2 := by
  show (x j ||| y j) ^^^ c j = _
  rw [hc, hx, hy, BitVec.xor_comm]; rfl
/-- The sum that the next round takes. -/
theorem sum_at (hc : c j = q.1 + q.2) (hb : b j = (mix r r' q).2) : addi c b j = (mix r r' q).1 + (mix r r' q).2 := by
  show c j + b j = _
  rw [hc, hb]; rfl
/-- The second word after the key step. -/
theorem inject_at (hb : b j = q.2) (hy : y j = k') : addi b y j = (inject k k' q).2 := by
  show b j + y j = _
  rw [hb, hy]; rfl
/-- The same where the key word and the group's number are added one after the other. -/
theorem inject_at' {n l : BitVec 32} (hb : b j = q.2) (hx : x j = l) (hy : y j = n) (hk : l + n = k') :
    addi (addi b x) y j = (inject k k' q).2 := by
  show b j + x j + y j = _
  rw [hb, hx, hy, BitVec.add_assoc, hk]; rfl
/-- The sum that the next round takes after the key step. -/
theorem injectSum_at (hc : c j = q.1 + q.2) (hx : x j = k) (hb : b j = (inject k k' (mix r r' q)).2) :
    addi (addi c x) b j = (inject k k' (mix r r' q)).1 + (inject k k' (mix r r' q)).2 := by
  show c j + x j + b j = _
  rw [hc, hx, hb]; rfl

/-- A kernel's round, whole. -/
theorem round_at (hc : c j = q.1 + q.2) (hb : b j = q.2) (hr : r.toNat < 32) (hr' : r'.toNat < 32) :
    xori c (ori (shli b (broadcast s r)) (shrui b (broadcast s r'))) j = (mix r r' q).2 :=
  turn_at hc (shli_at hb rfl hr) (shrui_at hb rfl hr')
/-- The host's round, whole. -/
theorem hostRound_at (hc : c j = q.1 + q.2) (hb : b j = q.2) (hx : x j = r) (hy : y j = r') (hr : r.toNat < 32)
    (hr' : r'.toNat < 32) : xori (ori (Host.shli b x) (Host.shrui b y)) c j = (mix r r' q).2 :=
  turn_at' hc (hostShli_at hb hx hr) (hostShrui_at hb hy hr')
end

end Cert.Words

end
-- ==== Proof.KernelWords.lean ====
/- The random words the kernel makes: its integer vectors, part by part, at an index of the block whose counter word
   is `p`. -/
module

public import proofs.«01_k».proof.Proof.Gen.KernelIdeal.Frame
public import proofs.«01_k».proof.Proof.Words
public import Idealize.ShloMosaic.Lib.Pipeline.Value

@[expose] public section

namespace Cert.KernelIdeal.Block

open Cert.KernelIdeal Cert.KernelIdeal.Gen Cert.Words Idealize.ShloMosaic

variable {F : FTy → Type} [FloatOps F]

/-- The counter word at index `j` of block `i`: the table's entry and the block's offset. -/
def counter (i : grid0.Coords) (x0 : Vec F S128x8192 .i32) (j : S128x8192.Idx) : BitVec 32 :=
  x0 j + Scalar.muli 1048576#32 (BitVec.ofNat 32 (i 0).val)

section
variable (i : grid0.Coords) (x0 : Vec F S128x8192 .i32) (j : S128x8192.Idx)

/-- Before the first round. -/
theorem pay4_at : k0_pay4 i x0 j = (start (counter i x0 j)).2 := by
  unfold k0_pay4; rw [shapeCast_self]; rfl
theorem pay5_at : k0_pay5 i x0 j = (start (counter i x0 j)).1 + (start (counter i x0 j)).2 := by
  show 0#32 + 2247515013#32 + k0_pay4 i x0 j = _
  rw [pay4_at]; rfl
/-- After one round: the second word, the next sum, and the second word's first shift. -/
theorem pay6_at : k0_pay6 i x0 j = (mix 13#32 19#32 (start (counter i x0 j))).2 :=
  round_at (pay5_at i x0 j) (pay4_at i x0 j) (by decide) (by decide)
theorem pay7_at : k0_pay7 i x0 j = (mix 13#32 19#32 (start (counter i x0 j))).1 + (mix 13#32 19#32 (start (counter i x0 j))).2 :=
  sum_at (pay5_at i x0 j) (pay6_at i x0 j)
theorem pay8_at : k0_pay8 i x0 j = (mix 13#32 19#32 (start (counter i x0 j))).2 <<< 15#32 :=
  shli_at (pay6_at i x0 j) rfl (by decide)
end

section
variable {q : Pair} {b c d : IVec S128x8192 32} {j : S128x8192.Idx}

/-- The kernel's second part: from the state `q` after round one to the one after round seven. -/
theorem part2_at (hb : b j = q.2) (hc : c j = q.1 + q.2) (hd : d j = q.2 <<< 15#32) :
    let q' := mix 16#32 16#32 (mix 29#32 3#32 (mix 17#32 15#32 (inject 2545468385#32 161448895#32
      (mix 6#32 26#32 (mix 26#32 6#32 (mix 15#32 17#32 q))))))
    k0_pay19 b c d j = q'.2 ∧ k0_pay20 b c d j = q'.1 + q'.2 ∧ k0_pay21 b c d j = q'.2 <<< 24#32 := by
  have b9 : k0_pay9 b c d j = _ := turn_at hc hd (shrui_at hb rfl (by decide : (17#32 : BitVec 32).toNat < 32))
  have c10 : k0_pay10 b c d j = _ := sum_at hc b9
  have b11 : k0_pay11 b c d j = (mix 26#32 6#32 _).2 := round_at c10 b9 (by decide) (by decide)
  have c12 : k0_pay12 b c d j = _ := sum_at c10 b11
  have b13 : k0_pay13 b c d j = (inject 2545468385#32 161448895#32 (mix 6#32 26#32 _)).2 :=
    inject_at (round_at c12 b11 (by decide) (by decide)) rfl
  have c14 : k0_pay14 b c d j = _ := injectSum_at c12 rfl b13
  have b15 : k0_pay15 b c d j = (mix 17#32 15#32 _).2 := round_at c14 b13 (by decide) (by decide)
  have c16 : k0_pay16 b c d j = _ := sum_at c14 b15
  have b17 : k0_pay17 b c d j = (mix 29#32 3#32 _).2 := round_at c16 b15 (by decide) (by decide)
  have c18 : k0_pay18 b c d j = _ := sum_at c16 b17
  have b19 : k0_pay19 b c d j = (mix 16#32 16#32 _).2 := round_at c18 b17 (by decide) (by decide)
  exact ⟨b19, sum_at c18 b19, shli_at b19 rfl (by decide)⟩

/-- The third part: from the state `q` after round seven to the one after round twelve and its key step. -/
theorem part3_at (hb : b j = q.2) (hc : c j = q.1 + q.2) (hd : d j = q.2 <<< 24#32) :
    let q' := groupA 2247515013#32 2545468388#32 (inject 161448894#32 2247515015#32 (mix 24#32 8#32 q))
    k0_pay31 b c d j = q'.1 + q'.2 ∧ k0_pay32 b c d j = q'.2 <<< 17#32 ∧ k0_pay33 b c d j = q'.2 >>> 15#32 := by
  have b22 : k0_pay22 b c d j = (inject 161448894#32 2247515015#32 (mix 24#32 8#32 q)).2 :=
    inject_at (turn_at hc hd (shrui_at hb rfl (by decide : (8#32 : BitVec 32).toNat < 32))) rfl
  have c23 : k0_pay23 b c d j = _ := injectSum_at hc rfl b22
  have b24 : k0_pay24 b c d j = (mix 13#32 19#32 _).2 := round_at c23 b22 (by decide) (by decide)
  have c25 : k0_pay25 b c d j = _ := sum_at c23 b24
  have b26 : k0_pay26 b c d j = (mix 15#32 17#32 _).2 := round_at c25 b24 (by decide) (by decide)
  have c27 : k0_pay27 b c d j = _ := sum_at c25 b26
  have b28 : k0_pay28 b c d j = (mix 26#32 6#32 _).2 := round_at c27 b26 (by decide) (by decide)
  have c29 : k0_pay29 b c d j = _ := sum_at c27 b28
  have b30 : k0_pay30 b c d j = (inject 2247515013#32 2545468388#32 (mix 6#32 26#32 _)).2 :=
    inject_at (round_at c29 b28 (by decide) (by decide)) rfl
  exact ⟨injectSum_at c29 rfl b30, shli_at b30 rfl (by decide), shrui_at b30 rfl (by decide)⟩

/-- The fourth part: from the state `q` after round twelve and its key step to the one after round eighteen. -/
theorem part4_at (hc : b j = q.1 + q.2) (hl : c j = q.2 <<< 17#32) (hr : d j = q.2 >>> 15#32) :
    let q' := mix 15#32 17#32 (mix 13#32 19#32 (groupB 2545468385#32 161448898#32 q))
    k0_pay45 b c d j = q'.1 + q'.2 ∧ k0_pay46 b c d j = q'.2 <<< 26#32 ∧ k0_pay47 b c d j = q'.2 >>> 6#32 := by
  have b34 : k0_pay34 b c d j = (mix 17#32 15#32 q).2 := turn_at hc hl hr
  have c35 : k0_pay35 b c d j = _ := sum_at hc b34
  have b36 : k0_pay36 b c d j = (mix 29#32 3#32 _).2 := round_at c35 b34 (by decide) (by decide)
  have c37 : k0_pay37 b c d j = _ := sum_at c35 b36
  have b38 : k0_pay38 b c d j = (mix 16#32 16#32 _).2 := round_at c37 b36 (by decide) (by decide)
  have c39 : k0_pay39 b c d j = _ := sum_at c37 b38
  have b40 : k0_pay40 b c d j = (inject 2545468385#32 161448898#32 (mix 24#32 8#32 _)).2 :=
    inject_at (round_at c39 b38 (by decide) (by decide)) rfl
  have c41 : k0_pay41 b c d j = _ := injectSum_at c39 rfl b40
  have b42 : k0_pay42 b c d j = (mix 13#32 19#32 _).2 := round_at c41 b40 (by decide) (by decide)
  have c43 : k0_pay43 b c d j = _ := sum_at c41 b42
  have b44 : k0_pay44 b c d j = (mix 15#32 17#32 _).2 := round_at c43 b42 (by decide) (by decide)
  exact ⟨sum_at c43 b44, shli_at b44 rfl (by decide), shrui_at b44 rfl (by decide)⟩

/-- The bits of the fifth part, from the values of the fourth. -/
def lastBits (b c d : IVec S128x8192 32) : IVec S128x8192 32 :=
  let v177 := xori b (ori c d)
  let v178 := addi b v177
  let v184 := xori v178 (ori (shli v177 (broadcast S128x8192 6#32)) (shrui v177 (broadcast S128x8192 26#32)))
  shrui (xori (addi v178 (broadcast S128x8192 161448894#32)) (addi v184 (broadcast S128x8192 2247515018#32)))
    (broadcast S128x8192 9#32)

/-- The last two rounds, the last key step and the shift that leaves twenty-three bits. -/
theorem lastBits_at (hc : b j = q.1 + q.2) (hl : c j = q.2 <<< 26#32) (hr : d j = q.2 >>> 6#32) :
    let q' := inject 161448894#32 2247515018#32 (mix 6#32 26#32 (mix 26#32 6#32 q))
    lastBits b c d j = (q'.1 ^^^ q'.2) >>> 9#32 := by
  have b177 : xori b (ori c d) j = (mix 26#32 6#32 q).2 := turn_at hc hl hr
  have c178 : addi b (xori b (ori c d)) j = _ := sum_at hc b177
  have b184 := round_at (r := 6#32) (r' := 26#32) c178 b177 (by decide) (by decide)
  refine shrui_at ?_ rfl (by decide)
  show (addi b (xori b (ori c d)) j + 161448894#32) ^^^ (xori _ _ j + 2247515018#32) = _
  rw [b184, c178]; rfl
end

/-- The kernel's random bits at an index are the cipher's at the counter there. -/
theorem kernelBits_at (i : grid0.Coords) (x0 : Vec F S128x8192 .i32) (x1 : Vec F S128x32 .f32) (x2 : Vec F S128x1 .f32)
    (x3 : Vec F S1x8192 .f32) (x4 : Vec F S32x8192 .f32) (x5 : Vec F S8192x32 .f32) (j : S128x8192.Idx) :
    lastBits (k0_pay60 i x0 x1 x2 x3 x4 x5) (k0_pay61 i x0 x1 x2 x3 x4 x5) (k0_pay62 i x0 x1 x2 x3 x4 x5) j
      = bits (counter i x0 j) := by
  have hx : View.ld x0 r0_4 = x0 := View.ld_unit_zero (Val := Elt F) (by decide) _ x0
  have h51 : k0_pay51 i x0 x1 x2 x3 x4 x5 j = _ := (congrArg (k0_pay6 i · j) hx).trans (pay6_at i x0 j)
  have h52 : k0_pay52 i x0 x1 x2 x3 x4 x5 j = _ := (congrArg (k0_pay7 i · j) hx).trans (pay7_at i x0 j)
  have h53 : k0_pay53 i x0 x1 x2 x3 x4 x5 j = _ := (congrArg (k0_pay8 i · j) hx).trans (pay8_at i x0 j)
  obtain ⟨h54, h55, h56⟩ := part2_at h51 h52 h53
  obtain ⟨h57, h58, h59⟩ := part3_at h54 h55 h56
  obtain ⟨h60, h61, h62⟩ := part4_at h57 h58 h59
  exact lastBits_at h60 h61 h62

end Cert.KernelIdeal.Block

end
-- ==== Proof.Noise.lean ====
/- The Gumbel noise as a function of the random bits, and that it is a real number: the uniform variable that the bits
   give lies strictly between zero and one. -/
module

public import proofs.«01_k».proof.Proof.Words
public import Idealize.ShloMosaic.Lib.IdealHost

@[expose] public section

noncomputable section

namespace Cert.Noise

open Idealize.ShloMosaic

/-- The smallest value of the uniform variable, the float nearest to 1e-9. -/
def eps : EReal := Ideal.ofBits .f32 0x3089705F#32

/-- The fraction that twenty-three bits write behind the leading one of a float in [1, 2), less that one. -/
def frac (w : BitVec 32) : EReal := Ideal.ofBits .f32 (w ||| 0x3F800000#32) - 1

/-- The uniform variable. -/
def uni (w : BitVec 32) : EReal := frac w + eps

/-- The Gumbel variable. -/
def gumbel (w : BitVec 32) : EReal := -Ideal.log (-Ideal.log (uni w))

/-- Twenty-three bits beside the exponent of one are a sum. -/
theorem toNat_or {w : BitVec 32} (hw : w.toNat < 2 ^ 23) : (w ||| 0x3F800000#32).toNat = 127 * 2 ^ 23 + w.toNat := by
  rw [BitVec.toNat_or, Nat.or_comm, show (0x3F800000#32 : BitVec 32).toNat = 2 ^ 23 * 127 by decide,
    ← Nat.two_pow_add_eq_or_of_lt hw, Nat.mul_comm]

/-- The float they write. -/
theorem ofBits_or {w : BitVec 32} (hw : w.toNat < 2 ^ 23) :
    Ideal.ofBits .f32 (w ||| 0x3F800000#32) = ((1 + w.toNat / 2 ^ 23 : ℝ) : EReal) := by
  have hn := toNat_or hw
  generalize w ||| 0x3F800000#32 = b at hn
  have h1 : (b.extractLsb' 31 1 == 1#1) = false := by
    rw [beq_eq_false_iff_ne]; intro h
    have := congrArg BitVec.toNat h
    rw [BitVec.extractLsb'_toNat, hn, Nat.shiftRight_eq_div_pow] at this
    simp at this; omega
  have h2 : (b.extractLsb' 23 8).toNat = 127 := by
    rw [BitVec.extractLsb'_toNat, hn, Nat.shiftRight_eq_div_pow]; omega
  have h3 : (b.extractLsb' 0 23).toNat = w.toNat := by
    rw [BitVec.extractLsb'_toNat, hn, Nat.shiftRight_eq_div_pow]; omega
  show Ideal.ieee 8 23 b = _
  unfold Ideal.ieee
  simp only [h2, h3, show 8 + 23 = 31 from rfl, h1]
  rw [if_neg (by decide), if_neg (by decide)]
  congr 1
  push_cast
  norm_num [zpow_neg]
  ring

theorem eps_eq : eps = ((9007199 * (2 : ℝ) ^ (-53 : ℤ) : ℝ) : EReal) := by
  unfold eps
  simp [Ideal.ofBits, Ideal.ieee, -EReal.coe_mul]

/-- The fraction is a real number in [0, 1 - 2⁻²³]. -/
theorem frac_real {w : BitVec 32} (hw : w.toNat < 2 ^ 23) :
    ∃ f : ℝ, frac w = f ∧ 0 ≤ f ∧ f ≤ 1 - 1 / 2 ^ 23 := by
  refine ⟨w.toNat / 2 ^ 23, ?_, by positivity, ?_⟩
  · unfold frac; rw [ofBits_or hw, ← EReal.coe_one, ← EReal.coe_sub]; congr 1; ring
  · have : (w.toNat : ℝ) + 1 ≤ 2 ^ 23 := by exact_mod_cast hw
    rw [le_sub_iff_add_le, ← add_div, div_le_one (by positivity)]; exact this

/-- The uniform variable lies strictly between zero and one. -/
theorem uni_real {w : BitVec 32} (hw : w.toNat < 2 ^ 23) : ∃ u : ℝ, uni w = u ∧ 0 < u ∧ u < 1 := by
  obtain ⟨f, hf, h0, h1⟩ := frac_real hw
  refine ⟨f + 9007199 * (2 : ℝ) ^ (-53 : ℤ), ?_, by positivity, ?_⟩
  · unfold uni; rw [hf, eps_eq, ← EReal.coe_add]
  · refine lt_of_le_of_lt (add_le_add h1 le_rfl) ?_
    norm_num

/-- The larger of the smallest value and the uniform variable is the uniform variable. -/
theorem max_eps_uni {w : BitVec 32} (hw : w.toNat < 2 ^ 23) : max eps (uni w) = uni w := by
  obtain ⟨f, hf, h0, -⟩ := frac_real hw
  refine max_eq_right ?_
  unfold uni; rw [hf, eps_eq, ← EReal.coe_add]
  exact EReal.coe_le_coe_iff.mpr (by linarith)

/-- The logarithm of a positive real number. -/
theorem log_pos {r : ℝ} (h : 0 < r) : Ideal.log (r : EReal) = (Real.log r : ℝ) := if_neg (not_le.mpr h)

/-- The Gumbel variable is a real number. -/
theorem gumbel_real {w : BitVec 32} (hw : w.toNat < 2 ^ 23) : ∃ g : ℝ, gumbel w = g := by
  obtain ⟨u, hu, h0, h1⟩ := uni_real hw
  refine ⟨-Real.log (-Real.log u), ?_⟩
  unfold gumbel
  rw [hu, log_pos h0, ← EReal.coe_neg, log_pos (neg_pos.mpr (Real.log_neg h0 h1)), ← EReal.coe_neg]

/-- The random bits are twenty-three. -/
theorem bits_lt (p : BitVec 32) : (Words.bits p).toNat < 2 ^ 23 := by
  unfold Words.bits
  have e : ∀ x : BitVec 32, (x >>> 9#32).toNat < 2 ^ 23 := fun x => by
    have : (x >>> 9#32).toNat = x.toNat >>> 9 := rfl
    rw [this, Nat.shiftRight_eq_div_pow]
    have := x.isLt
    omega
  exact e _

end Cert.Noise

end
-- ==== Proof.Best.lean ====
/- The first best column of a row: what it is, that a row of extended reals has one, and that a fold whose operation the
   best entry absorbs yields that entry. -/
module

public import Idealize.ShloMosaic.PureOps.Ideal.Laws
public import Idealize.ShloMosaic.Lib.SortNet.Extract
public import Idealize.ShloMosaic.Lib.WordCmp

@[expose] public section

namespace Cert.Best

open Idealize.ShloMosaic

/-- `b` is the first column at which the row `z` is largest. -/
def IsBest {n : Nat} (z : Fin n → EReal) (b : Fin n) : Prop := ∀ j, z j ≤ z b ∧ (j < b → z j < z b)

/-- Every row that has a column has a first best one. -/
theorem exists_best {n : Nat} [NeZero n] (z : Fin n → EReal) : ∃ b, IsBest z b := by
  classical
  obtain ⟨m, -, hm⟩ := Finset.exists_max_image Finset.univ z Finset.univ_nonempty
  have hne : (Finset.univ.filter fun j => z j = z m).Nonempty := ⟨m, by simp⟩
  obtain ⟨b, hb, hmin⟩ := Finset.exists_min_image _ (fun j : Fin n => j) hne
  have hzb : z b = z m := (Finset.mem_filter.1 hb).2
  refine ⟨b, fun j => ⟨hzb ▸ hm j (Finset.mem_univ j), fun hj => ?_⟩⟩
  refine lt_of_le_of_ne (hzb ▸ hm j (Finset.mem_univ j)) fun e => ?_
  exact absurd (hmin j (by simp [e, hzb])) (not_le.2 hj)

/-- A fold over values that all satisfy `P`, where an entry `m` absorbs whatever satisfies `P`, is `m`. -/
theorem fold_absorb {α β : Type*} [DecidableEq α] (op : β → β → β) [Std.Commutative op] [Std.Associative op] (s : Finset α)
    (f : α → β) (init m : β) (P : β → Prop) (h0 : P init) (hf : ∀ i ∈ s, P (f i)) (hop : ∀ x y, P x → P y → P (op x y))
    (habs : ∀ x, P x → op m x = m) (hm : ∃ i ∈ s, f i = m) : s.fold op init f = m := by
  obtain ⟨i, hi, rfl⟩ := hm
  rw [← Finset.insert_erase hi, Finset.fold_insert (Finset.notMem_erase i s)]
  refine habs _ ?_
  have hf' : ∀ k ∈ s.erase i, P (f k) := fun k hk => hf k (Finset.mem_of_mem_erase hk)
  generalize s.erase i = r at hf'
  induction r using Finset.induction_on with
  | empty => exact h0
  | insert a r ha ih =>
    rw [Finset.fold_insert ha]
    exact hop _ _ (hf' a (Finset.mem_insert_self a r)) (ih fun k hk => hf' k (Finset.mem_insert_of_mem hk))

/-- The largest entry of a row is its best one. -/
theorem fold_max {n : Nat} {z : Fin n → EReal} {b : Fin n} (h : IsBest z b) :
    (Finset.univ : Finset (Fin n)).fold max ⊥ z = z b :=
  fold_absorb max _ _ _ _ (· ≤ z b) bot_le (fun i _ => (h i).1) (fun _ _ => max_le) (fun _ => max_eq_left)
    ⟨b, Finset.mem_univ b, rfl⟩

/-- The least word of a family that contains it is itself. -/
theorem fold_minsi {n : Nat} (f : Fin n → BitVec 32) (init m : BitVec 32) (h0 : m.toInt ≤ init.toInt)
    (hf : ∀ i, m.toInt ≤ (f i).toInt) (hm : ∃ i, f i = m) : (Finset.univ : Finset (Fin n)).fold IKind.minsi.op init f = m := by
  obtain ⟨i, hi⟩ := hm
  refine fold_absorb _ _ _ _ _ (fun x => m.toInt ≤ x.toInt) h0 (fun i _ => hf i) (fun x y hx hy => ?_) (fun x hx => ?_)
    ⟨i, Finset.mem_univ i, hi⟩
  · show m.toInt ≤ (IntOp.minsi x y).toInt
    rw [SortNet.toInt_minsi]; exact le_min hx hy
  · apply BitVec.eq_of_toInt_eq
    show (IntOp.minsi m x).toInt = m.toInt
    rw [SortNet.toInt_minsi]; exact min_eq_left hx

end Cert.Best

end
-- ==== Proof.KernelCodes.lean ====
/- The codes of one block of the kernel: a row holds one at its first best column, and zero elsewhere. -/
module

public import proofs.«01_k».proof.Proof.KernelWords
public import proofs.«01_k».proof.Proof.Noise
public import proofs.«01_k».proof.Proof.Best
public import Idealize.ShloMosaic.Lib.Pointwise.Reduce
public import Idealize.ShloMosaic.Lib.ValueLayout

@[expose] public section

noncomputable section

namespace Cert.KernelIdeal.Block

open Cert.KernelIdeal Cert.KernelIdeal.Gen Cert.Best Idealize.ShloMosaic

/-- The scores of a block, from the distances and the random bits. -/
def scores (d : FVec Ideal S128x8192 .f32) (w : IVec S128x8192 32) : FVec Ideal S128x8192 .f32 :=
  let u := addf (subf (bitcastToFloat .f32 (ori w (broadcast S128x8192 0x3F800000#32)))
    (broadcast S128x8192 (Scalar.ofBits .f32 0x3F800000#32))) (broadcast S128x8192 (Scalar.ofBits .f32 0x3089705F#32))
  subf (subf (broadcast S128x8192 (Scalar.ofBits .f32 0#32))
    (log (subf (broadcast S128x8192 (Scalar.ofBits .f32 0#32)) (log u)))) d

/-- A vector with one entry a row, along the row. -/
def along {ε : Type} (v : S128.Idx → ε) : S128x8192.Idx → ε :=
  broadcastTo S128x8192 (shapeCast S128x1 v shapeCasts_S128_S128x1) broadcasts_S128x1_S128x8192

/-- The largest score of each row. -/
def top (z : FVec Ideal S128x8192 .f32) : FVec Ideal S128 .f32 :=
  multiReduction .maximumf [1] S128 z 0xFF800000#32 reduces_S128x8192_S128 (.inl rfl) rfl

/-- The least of the words `I` at a largest score. -/
def least (z : FVec Ideal S128x8192 .f32) (I : IVec S128x8192 32) : IVec S128 32 :=
  multiReductionI .minsi [1] S128 (select (cmpf .oeq z (along (top z))) I (broadcast S128x8192 8192#32)) 2147483647#32
    reduces_S128x8192_S128 rfl

/-- One where the word is the least one, zero elsewhere. -/
def oneHot (z : FVec Ideal S128x8192 .f32) (I : IVec S128x8192 32) : FVec Ideal S128x8192 .f32 :=
  sitofp .f32 (extui 32 (cmpi .eq I (along (least z I))) natLt_1_32)

theorem pay48_eq (d : FVec Ideal S128x8192 .f32) (I b c e : IVec S128x8192 32) :
    k0_pay48 d I b c e = oneHot (scores d (lastBits b c e)) I := rfl

/-- The score at an index: the noise less the distance. -/
theorem scores_at (d : FVec Ideal S128x8192 .f32) (w : IVec S128x8192 32) (j : S128x8192.Idx) :
    scores d w j = Noise.gumbel (w j) - d j := by
  show (Ideal.ofBits .f32 0#32 - Ideal.log (Ideal.ofBits .f32 0#32
    - Ideal.log (Ideal.ofBits .f32 (w j ||| 0x3F800000#32) - Ideal.ofBits .f32 0x3F800000#32 + Noise.eps))) - d j = _
  rw [Ideal.ofBits_zero_f32, Ideal.ofBits_one_f32, zero_sub, zero_sub]
  rfl

theorem along_at {ε : Type} (v : S128.Idx → ε) (a : Fin 128) (c : Fin 8192) : along v (ix2 a c) = v (ix1 a) := by
  unfold along
  rw [broadcastTo_apply _ _ _ (ix2 a 0) (by intro b; match b with | ⟨0, _⟩ => rfl | ⟨1, _⟩ => rfl)]
  refine shapeCast_apply _ _ _ (ix1 a) ?_
  rw [Shape.rowMajor_val_one, Shape.rowMajor_val_two]
  show a.val = a.val * 1 + 0
  omega

/-- The word a column is numbered by. -/
theorem column_toInt (c : Fin 8192) : (BitVec.ofNat 32 c.val).toInt = c.val :=
  WordCmp.toInt_ofNat_of_lt (lt_trans c.isLt (by norm_num))

variable (z : FVec Ideal S128x8192 .f32) (I : IVec S128x8192 32) (a : Fin 128) {b : Fin 8192}

theorem top_at (hb : IsBest (fun c => z (ix2 a c)) b) : top z (ix1 a) = z (ix2 a b) := by
  refine (multiReduction_maximumf_eq_fold z 0xFF800000#32 reduces_S128x8192_S128 (.inl rfl) rfl (ix1 a)).trans ?_
  rw [Shape.Reduces.fold_fiber_r2_a1]
  have h : (FloatOps.ofBits .f32 0xFF800000#32 : Ideal .f32) = (⊥ : EReal) := by
    show Ideal.ofBits .f32 0xFF800000#32 = ⊥
    simp [Ideal.ofBits, Ideal.ieee]
  rw [h]
  exact fold_max hb

theorem least_at (hI : ∀ c, I (ix2 a c) = BitVec.ofNat 32 c.val) (hb : IsBest (fun c => z (ix2 a c)) b) :
    least z I (ix1 a) = BitVec.ofNat 32 b.val := by
  refine (multiReductionI_eq_fold .minsi _ 2147483647#32 reduces_S128x8192_S128 rfl (ix1 a)).trans ?_
  rw [Shape.Reduces.fold_fiber_r2_a1]
  have hs : ∀ c : Fin 8192, select (cmpf .oeq z (along (top z))) I (broadcast S128x8192 8192#32) (ix2 a c)
      = if z (ix2 a c) = z (ix2 a b) then BitVec.ofNat 32 c.val else 8192#32 := fun c => by
    show (if Ideal.cmp .oeq (z (ix2 a c)) (along (top z) (ix2 a c)) = 1 then I (ix2 a c) else 8192#32) = _
    rw [along_at, top_at z a hb, hI]
    show (if BitVec.ofBool (decide (z (ix2 a c) = z (ix2 a b))) = 1#1 then _ else _) = _
    simp only [WordCmp.ofBool_decide_eq_one_iff]
  refine fold_minsi _ _ _ ?_ (fun c => ?_) ⟨b, ?_⟩
  · rw [column_toInt, show (2147483647#32 : BitVec 32).toInt = 2147483647 by decide]
    have := b.isLt; omega
  · refine le_of_le_of_eq ?_ (congrArg BitVec.toInt (hs c).symm)
    rw [column_toInt]
    split
    · next h =>
      rw [column_toInt]
      exact_mod_cast not_lt.1 fun hc => absurd h ((hb c).2 hc).ne
    · rw [show (8192#32 : BitVec 32).toInt = 8192 by decide]
      have := b.isLt; omega
  · refine (hs b).trans (if_pos rfl)

/-- The codes of a row: one at its first best column. -/
theorem oneHot_at (hI : ∀ c, I (ix2 a c) = BitVec.ofNat 32 c.val) (hb : IsBest (fun c => z (ix2 a c)) b) (c : Fin 8192) :
    oneHot z I (ix2 a c) = if c = b then 1 else 0 := by
  show (((((BitVec.ofBool (I (ix2 a c) == along (least z I) (ix2 a c))).setWidth 32).toInt : ℝ)) : EReal) = _
  rw [along_at, least_at z I a hI hb, hI]
  have hcb : (BitVec.ofNat 32 c.val == BitVec.ofNat 32 b.val) = decide (c = b) := by
    rw [Bool.eq_iff_iff, beq_iff_eq, decide_eq_true_iff,
      WordCmp.ofNat_eq_ofNat_iff (lt_trans c.isLt (by norm_num)) (lt_trans b.isLt (by norm_num)), Fin.ext_iff]
  rw [hcb]
  by_cases h : c = b
  · rw [if_pos h, decide_eq_true h]
    show (((1#32 : BitVec 32).toInt : ℝ) : EReal) = 1
    norm_num
  · rw [if_neg h, decide_eq_false h]
    show (((0#32 : BitVec 32).toInt : ℝ) : EReal) = 0
    norm_num

end Cert.KernelIdeal.Block

end
-- ==== Proof.Rows.lean ====
/- Reductions of a row of any length: its largest entry, its sum, and the argmax the reference takes of it. -/
module

public import proofs.«01_k».proof.Proof.Gen.ReferenceIdeal
public import proofs.«01_k».proof.Proof.Best
public import Idealize.ShloMosaic.Lib.IdealHost
public import Idealize.ShloMosaic.Lib.Pointwise.Reduce
public import Idealize.ShloMosaic.Lib.Pipeline.Value
public import Idealize.ShloMosaic.Lib.StackMember
public import Idealize.ShloMosaic.Lib.MatmulPlain
public import Idealize.ShloMosaic.Lib.ValueLayout

@[expose] public section

noncomputable section

namespace Cert.Rows

open Cert.ReferenceIdeal Cert.Best Idealize.ShloMosaic

/-- A pair that the pair `(m, w)` beats or equals: smaller, or as large and no further left. -/
def Beaten (m : EReal) (w : BitVec 32) (p : EReal × BitVec 32) : Prop := p.1 < m ∨ (p.1 = m ∧ w.toInt ≤ p.2.toInt)

/-- The two selects of the argmax's step, on any conditions. -/
theorem pick (P Q R : Prop) [Decidable P] [Decidable Q] [Decidable R] {α β : Type} (x y : α) (u v : β) :
    (Scalar.select (IntOp.ori (BitVec.ofBool (decide P)) 0#1) x y,
      Scalar.select (IntOp.ori (IntOp.ori (BitVec.ofBool (decide P)) 0#1)
        (IntOp.andi (BitVec.ofBool (decide Q)) (BitVec.ofBool (decide R)))) u v)
      = (if P then x else y, if P ∨ (Q ∧ R) then u else v) := by
  by_cases a : P <;> by_cases b : Q <;> by_cases c : R <;>
    simp only [a, b, c, decide_true, decide_false, if_true, if_false, or_true, true_or, and_true, and_false, false_and,
      or_false, or_self, true_and] <;> rfl

/-- The argmax's step, as a choice between its two pairs. -/
theorem step_eq (p q : EReal × BitVec 32) : reducer_argmax_f32_i32 (F := Ideal) p q
    = (if q.1 < p.1 then p.1 else q.1, if q.1 < p.1 ∨ (p.1 = q.1 ∧ p.2.toInt < q.2.toInt) then p.2 else q.2) := by
  have h1 : Ideal.cmp .ogt p.1 q.1 = BitVec.ofBool (decide (q.1 < p.1)) := rfl
  have h2 : Ideal.cmp .une p.1 p.1 = 0#1 := by simp [Ideal.cmp]
  have h3 : Ideal.cmp .oeq p.1 q.1 = BitVec.ofBool (decide (p.1 = q.1)) := rfl
  have h4 : IntOp.cmpi .slt p.2 q.2 = BitVec.ofBool (decide (p.2.toInt < q.2.toInt)) := rfl
  show (Scalar.select (IntOp.ori (Ideal.cmp .ogt p.1 q.1) (Ideal.cmp .une p.1 p.1)) p.1 q.1,
    Scalar.select (IntOp.ori (IntOp.ori (Ideal.cmp .ogt p.1 q.1) (Ideal.cmp .une p.1 p.1))
      (IntOp.andi (Ideal.cmp .oeq p.1 q.1) (IntOp.cmpi .slt p.2 q.2))) p.2 q.2) = _
  rw [h1, h2, h3, h4]
  exact pick _ _ _ _ _ _ _

section
variable {m : EReal} {w : BitVec 32}

theorem beaten_step {p q : EReal × BitVec 32} (hp : Beaten m w p) (hq : Beaten m w q) :
    Beaten m w (reducer_argmax_f32_i32 (F := Ideal) p q) := by
  rw [step_eq]
  unfold Beaten at *
  dsimp only
  by_cases a : q.1 < p.1
  · simpa only [a, if_true, true_or] using hp
  · by_cases c : p.1 = q.1 ∧ p.2.toInt < q.2.toInt
    · rw [if_neg a, if_pos (Or.inr c), ← c.1]; exact hp
    · rw [if_neg a, if_neg (not_or.2 ⟨a, c⟩)]; exact hq

theorem step_left {p : EReal × BitVec 32} (hp : Beaten m w p) : reducer_argmax_f32_i32 (F := Ideal) (m, w) p = (m, w) := by
  rw [step_eq]
  rcases hp with h | ⟨h, h'⟩
  · simp [h]
  · have : m = p.1 := h.symm
    refine Prod.ext ?_ ?_
    · simp [h]
    · dsimp only
      by_cases c : w.toInt < p.2.toInt
      · rw [if_pos (Or.inr ⟨this, c⟩)]
      · rw [if_neg (by rw [h]; simp [c])]
        exact BitVec.eq_of_toInt_eq (le_antisymm (not_lt.1 c) h')

theorem step_right {p : EReal × BitVec 32} (hp : Beaten m w p) : reducer_argmax_f32_i32 (F := Ideal) p (m, w) = (m, w) := by
  rw [step_eq]
  rcases hp with h | ⟨h, h'⟩
  · simp [h.not_gt, h.ne]
  · simp [h, not_lt.2 h']

/-- The argmax over a list of beaten pairs yields the pair that beats them, once that pair is in the list. -/
theorem foldl_argmax (l : List (EReal × BitVec 32)) (hl : ∀ p ∈ l, Beaten m w p) (p : EReal × BitVec 32) (hp : Beaten m w p)
    (hm : p = (m, w) ∨ (m, w) ∈ l) : l.foldl (reducer_argmax_f32_i32 (F := Ideal)) p = (m, w) := by
  induction l generalizing p with
  | nil => exact hm.resolve_right (by simp)
  | cons q l ih =>
    have hq := hl q (List.mem_cons_self ..)
    refine ih (fun x hx => hl x (List.mem_cons_of_mem _ hx)) _ (beaten_step hp hq) ?_
    rcases hm with rfl | hm
    · exact Or.inl (step_left hq)
    · rcases List.mem_cons.1 hm with rfl | hm
      · exact Or.inl (step_right hp)
      · exact Or.inr hm
end

theorem bot_eq : Ideal.ofBits .f32 0xFF800000#32 = ⊥ := by simp [Ideal.ofBits, Ideal.ieee]

section
variable {s u : Shape} (x y : FVec Ideal s .f32) (j : s.Idx)

/-- The operations of the ideal instance at an index. -/
theorem subf_at : subf x y j = (x j : EReal) - y j := rfl
theorem addf_at : addf x y j = (x j : EReal) + y j := rfl
theorem mulf_at : mulf x y j = (x j : EReal) * y j := rfl
theorem maximumf_at : maximumf x y j = max (x j : EReal) (y j) := rfl
theorem exp_at : Host.exp x j = Ideal.exp (x j) := rfl
theorem log_at : Host.log x j = Ideal.log (x j) := rfl
theorem sqrt_at : Host.sqrt x j = Ideal.sqrt (x j) := rfl
theorem negf_at : Host.negf x j = -(x j : EReal) := rfl
theorem divf_at : Host.divf x y j = Ideal.div (x j) (y j) := rfl
theorem equal_at (I J : IVec s 32) : uitofp (F := Ideal) .f32 (cmpi .eq I J) j = if I j = J j then (1 : EReal) else 0 := by
  show (((BitVec.ofBool (I j == J j)).toNat : ℝ) : EReal) = _
  by_cases h : I j = J j <;> simp [h]
theorem bot_at : constant (F := Ideal) s .f32 0xFF800000#32 j = (⊥ : EReal) := bot_eq
theorem zero_at : constant (F := Ideal) s .f32 0x00000000#32 j = (0 : EReal) := Ideal.ofBits_zero_f32
theorem one_at : constant (F := Ideal) s .f32 0x3F800000#32 j = (1 : EReal) := Ideal.ofBits_one_f32
end

/-- The numbers of the columns. -/
theorem iota_at {n0 n1 : Nat} (r : Fin n0) (c : Fin n1) :
    iotaInDim ⟨2, ![n0, n1]⟩ 32 1 (ix2 r c) = BitVec.ofNat 32 c.val := rfl

section
variable {l m n : Nat} (prec : Option ContractPrecision) (x : FVec Ideal ⟨2, ![m, l]⟩ .f32) (y : FVec Ideal ⟨2, ![l, n]⟩ .f32)
  (r : Fin m) (c : Fin n)

/-- The two products of matrices at an index. -/
theorem dotGeneral_at : Host.dotGeneral (DotDims.plain m l n) prec x y (ix2 r c) = ∑ k : Fin l, x (ix2 r k) * y (ix2 k c) :=
  StackMember.dotGeneral_plain_apply prec x y r c
theorem matmul_at : matmul (DotDims.plain m l n) prec x y (constant _ .f32 0x00000000#32) (ix2 r c)
    = ∑ k : Fin l, x (ix2 r k) * y (ix2 k c) := by
  refine (Ideal.matmul_plain_apply prec x y (constant _ .f32 0x00000000#32) r c).trans ?_
  rw [zero_at, zero_add]
  rfl
end

/-- A transposed matrix at an index. -/
theorem transpose_at {m n : Nat} {ε : Type} (x : (⟨2, ![m, n]⟩ : Shape).Idx → ε)
    (h : (⟨2, ![m, n]⟩ : Shape).Transposes [1, 0] ⟨2, ![n, m]⟩) (r : Fin n) (c : Fin m) :
    transpose ⟨2, ![n, m]⟩ [1, 0] x h (ix2 r c) = x (ix2 c r) := ValueIdx.transpose_ix2_apply x h r c

/-- A sum of reals, among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable {n0 n1 : Nat} {u : Shape} (h : (⟨2, ![n0, n1]⟩ : Shape).ReducesTo [1] ⟨1, ![n0]⟩) (hu : 0 < u.numel)
  (z : FVec Ideal ⟨2, ![n0, n1]⟩ .f32) (r : Fin n0) {b : Fin n1}

/-- The largest entry of a row is its best one. -/
theorem reduceMax_at (init : FVec Ideal u .f32) (hi : init (Shape.Idx.first hu) = (⊥ : EReal))
    (hb : IsBest (fun c => z (ix2 r c)) b) : Host.reduce FloatOps.maximumf z init h hu (ix1 r) = z (ix2 r b) := by
  refine (Host.reduce_eq_fold _ z _ _ hu (ix1 r)).trans ?_
  rw [Shape.ReducesTo.fold_fiber_r2_a1, hi]
  exact fold_max hb

/-- The sum of a row. -/
theorem reduceAdd_at (init : FVec Ideal u .f32) (hi : init (Shape.Idx.first hu) = (0 : EReal)) :
    Host.reduceAdd z init h hu (ix1 r) = ∑ c : Fin n1, (z (ix2 r c) : EReal) := by
  refine (Ideal.hostReduceAdd_r2_a1 h z _ (ix1 r)).trans ?_
  rw [hi, zero_add]
  rfl

/-- The argmax of a row, its entries numbered by words, is the first best one's word. -/
theorem argReduce_at (I : IVec ⟨2, ![n0, n1]⟩ 32) (hI : ∀ c : Fin n1, I (ix2 r c) = BitVec.ofNat 32 c.val) (hn : n1 < 2 ^ 31)
    (init : FVec Ideal u .f32) (hi : init (Shape.Idx.first hu) = (⊥ : EReal)) (init' : IVec u 32)
    (hbot : (⊥ : EReal) < z (ix2 r b)) (hb : IsBest (fun c => z (ix2 r c)) b) :
    Host.argReduce reducer_argmax_f32_i32 z I init init' h hu (ix1 r) = (z (ix2 r b), BitVec.ofNat 32 b.val) := by
  rw [Ideal.argReduce_eq_reduce2, Host.reduce2_eq_foldl_fiber]
  have hword : ∀ c : Fin n1, (BitVec.ofNat 32 c.val).toInt = c.val := fun c =>
    WordCmp.toInt_ofNat_of_lt (lt_trans c.isLt hn)
  have hmem : ∀ p, p ∈ Host.argReduceFiber z I h (ix1 r) ↔ ∃ c : Fin n1, (z (ix2 r c), BitVec.ofNat 32 c.val) = p := fun p => by
    unfold Host.argReduceFiber
    rw [List.mem_map]
    constructor
    · rintro ⟨n, hn, rfl⟩
      have hd := of_decide_eq_true (List.mem_filter.1 hn).2
      obtain ⟨c, hc⟩ := (Shape.ReducesTo.fiber_r2_a1 _ _ _).1 hd
      refine ⟨c, ?_⟩
      rw [← hc]
      exact congrArg _ (hI c).symm
    · rintro ⟨c, rfl⟩
      refine ⟨Shape.rowMajor _ (ix2 r c), List.mem_filter.2 ⟨List.mem_finRange _, decide_eq_true ?_⟩, ?_⟩
      · rw [Equiv.symm_apply_apply]
        exact (Shape.ReducesTo.fiber_r2_a1 _ _ _).2 ⟨c, rfl⟩
      · rw [Equiv.symm_apply_apply, hI]
  refine foldl_argmax _ (fun p hp => ?_) _ (Or.inl ?_) (Or.inr ((hmem _).2 ⟨b, rfl⟩))
  · obtain ⟨c, rfl⟩ := (hmem p).1 hp
    by_cases hc : c < b
    · exact Or.inl ((hb c).2 hc)
    · refine (hb c).1.lt_or_eq.imp id fun e => ⟨e, ?_⟩
      rw [hword, hword]
      exact_mod_cast not_lt.1 hc
  · rw [hi]; exact hbot
end

end Cert.Rows

end
-- ==== Proof.Model.lean ====
/- What the program computes, written plainly: the scores of the codebook's entries for each input row, the best entry,
   the codes and the errors. For real inputs the scores and the errors are real. -/
module

public import proofs.«01_k».proof.Proof.Noise
public import proofs.«01_k».proof.Proof.Rows

@[expose] public section

noncomputable section

namespace Cert.Model

open Cert.Best Cert.Rows Idealize.ShloMosaic

/-- Rows of thirty-two numbers. -/
abbrev Mat (n : Nat) : Type := FVec Ideal ⟨2, ![n, 32]⟩ .f32

/-- The inner product of two rows. -/
def inner {m n : Nat} (X : Mat m) (C : Mat n) (r : Fin m) (c : Fin n) : EReal := ∑ k : Fin 32, X (ix2 r k) * C (ix2 c k)

/-- The distance from an inner product and the squares of the two lengths. -/
def distOf (xx cc xc : EReal) : EReal := Ideal.sqrt (max (xx + cc - Ideal.ofBits .f32 0x40000000#32 * xc) 0)

/-- The distance of two rows. -/
def dist {m n : Nat} (X : Mat m) (C : Mat n) (r : Fin m) (c : Fin n) : EReal :=
  distOf (inner X X r r) (inner C C c c) (inner X C r c)

/-- The number of a row and a column: their position, the rows one after the other. -/
def number (r c : Nat) : BitVec 32 := BitVec.ofNat 32 r * 8192#32 + BitVec.ofNat 32 c

/-- The score of a codebook entry for an input row: the noise less the distance. -/
def score (X C : Mat 8192) (r c : Fin 8192) : EReal := Noise.gumbel (Words.bits (number r.val c.val)) - dist X C r c

/-- The first best entry. -/
def best (X C : Mat 8192) (r : Fin 8192) : Fin 8192 := Classical.choose (exists_best (score X C r))

theorem best_isBest (X C : Mat 8192) (r : Fin 8192) : IsBest (score X C r) (best X C r) :=
  Classical.choose_spec (exists_best (score X C r))

/-- The codes: one at the best entry. -/
def code (X C : Mat 8192) (r c : Fin 8192) : EReal := if c = best X C r then 1 else 0

/-- The codes times the codebook is the best entry itself. -/
theorem sum_code (X C : Mat 8192) (r : Fin 8192) (k : Fin 32) :
    ∑ c, code X C r c * C (ix2 c k) = (C (ix2 (best X C r) k) : EReal) := by
  unfold code
  simp only [ite_mul, one_mul, zero_mul, Finset.sum_ite_eq', Finset.mem_univ, if_true]

/-- What the best entry differs from the input by. -/
def err (X C : Mat 8192) (r : Fin 8192) (k : Fin 32) : EReal := C (ix2 (best X C r) k) - X (ix2 r k)

theorem two_eq : Ideal.ofBits .f32 0x40000000#32 = ((2 : ℝ) : EReal) := by
  simp [Ideal.ofBits, Ideal.ieee]
  rw [← EReal.coe_mul]
  norm_num

/-- All entries are real. -/
def IsReal {n : Nat} (X : Mat n) : Prop := ∀ i, ∃ x : ℝ, X i = (x : EReal)

theorem inner_real {m n : Nat} {X : Mat m} {C : Mat n} (hX : IsReal X) (hC : IsReal C) (r : Fin m) (c : Fin n) :
    ∃ x : ℝ, inner X C r c = (x : EReal) := by
  choose x hx using hX
  choose y hy using hC
  refine ⟨∑ k : Fin 32, x (ix2 r k) * y (ix2 c k), ?_⟩
  unfold inner
  rw [coe_sum]
  exact Finset.sum_congr rfl fun k _ => by rw [hx, hy, EReal.coe_mul]

theorem dist_real {m n : Nat} {X : Mat m} {C : Mat n} (hX : IsReal X) (hC : IsReal C) (r : Fin m) (c : Fin n) :
    ∃ x : ℝ, dist X C r c = (x : EReal) := by
  obtain ⟨x, hx⟩ := inner_real hX hX r r
  obtain ⟨y, hy⟩ := inner_real hC hC c c
  obtain ⟨z, hz⟩ := inner_real hX hC r c
  have h : max ((x : EReal) + y - ((2 : ℝ) : EReal) * z) 0 = ((max (x + y - 2 * z) 0 : ℝ) : EReal) := by
    rw [← EReal.coe_add, ← EReal.coe_mul, ← EReal.coe_sub, ← EReal.coe_zero]
    exact (EReal.coe_strictMono.monotone.map_max).symm
  refine ⟨Real.sqrt (max (x + y - 2 * z) 0), ?_⟩
  unfold dist distOf
  rw [hx, hy, hz, two_eq, h]
  show (if (max (x + y - 2 * z) 0 : ℝ) < 0 then (⊥ : EReal) else ((Real.sqrt (max (x + y - 2 * z) 0) : ℝ) : EReal)) = _
  rw [if_neg (not_lt.2 (le_max_right _ _))]

theorem score_real {X C : Mat 8192} (hX : IsReal X) (hC : IsReal C) (r c : Fin 8192) :
    ∃ x : ℝ, score X C r c = (x : EReal) := by
  obtain ⟨g, hg⟩ := Noise.gumbel_real (Noise.bits_lt (number r.val c.val))
  obtain ⟨d, hd⟩ := dist_real hX hC r c
  exact ⟨g - d, by rw [score, hg, hd, EReal.coe_sub]⟩

theorem err_real {X C : Mat 8192} (hX : IsReal X) (hC : IsReal C) (r : Fin 8192) (k : Fin 32) :
    ∃ x : ℝ, err X C r k = (x : EReal) := by
  obtain ⟨x, hx⟩ := hX (ix2 r k)
  obtain ⟨y, hy⟩ := hC (ix2 (best X C r) k)
  exact ⟨y - x, by rw [err, hx, hy, EReal.coe_sub]⟩

end Cert.Model

end
-- ==== Proof.KernelBlock.lean ====
/- What one block computes: the codes of its rows, and its part of the loss. -/
module

public import proofs.«01_k».proof.Proof.KernelWords
public import proofs.«01_k».proof.Proof.KernelCodes
public import proofs.«01_k».proof.Proof.Model
public import proofs.«01_k».proof.Proof.Gen.KernelIdeal.Frame
public import Idealize.ShloMosaic.Lib.Pipeline.Value

@[expose] public section

set_option Elab.async false

noncomputable section

namespace Cert.KernelIdeal.Block

open Cert.KernelIdeal Cert.KernelIdeal.Gen Cert.Best Cert.Rows Cert.Model Idealize.ShloMosaic

/-- The distances of a block, from the squares of the two lengths and the rows. -/
def dists (x : FVec Ideal S128x32 .f32) (xx : FVec Ideal S128x1 .f32) (cc : FVec Ideal S1x8192 .f32)
    (y : FVec Ideal S32x8192 .f32) : FVec Ideal S128x8192 .f32 :=
  sqrt (maximumf (subf (addf (broadcastTo S128x8192 xx broadcasts_S128x1_S128x8192)
      (broadcastTo S128x8192 cc broadcasts_S1x8192_S128x8192))
    (mulf (broadcast S128x8192 (Scalar.ofBits .f32 0x40000000#32))
      (matmul dot_S128x32_S32x8192_S128x8192_1_0_0_1_n_n none x y (constant S128x8192 .f32 0x00000000#32))))
    (broadcast S128x8192 (Scalar.ofBits .f32 0x00000000#32)))

theorem pay3_eq (x : FVec Ideal S128x32 .f32) (xx : FVec Ideal S128x1 .f32) (cc : FVec Ideal S1x8192 .f32)
    (y : FVec Ideal S32x8192 .f32) : k0_pay3 x xx cc y = dists x xx cc y := by
  unfold k0_pay3 k0_pay2 dists
  simp only [shapeCast_self]

theorem dists_at (x : FVec Ideal S128x32 .f32) (xx : FVec Ideal S128x1 .f32) (cc : FVec Ideal S1x8192 .f32)
    (y : FVec Ideal S32x8192 .f32) (a : Fin 128) (c : Fin 8192) :
    dists x xx cc y (ix2 a c) = distOf (xx (ix2 a 0)) (cc (ix2 0 c)) (∑ k : Fin 32, x (ix2 a k) * y (ix2 k c)) := by
  have h1 : broadcastTo S128x8192 xx broadcasts_S128x1_S128x8192 (ix2 a c) = xx (ix2 a 0) :=
    broadcastTo_apply _ _ _ (ix2 a 0) (by intro b; match b with | ⟨0, _⟩ => rfl | ⟨1, _⟩ => rfl)
  have h2 : broadcastTo S128x8192 cc broadcasts_S1x8192_S128x8192 (ix2 a c) = cc (ix2 0 c) :=
    broadcastTo_apply _ _ _ (ix2 0 c) (by intro b; match b with | ⟨0, _⟩ => rfl | ⟨1, _⟩ => rfl)
  have h3 : matmul dot_S128x32_S32x8192_S128x8192_1_0_0_1_n_n none x y (constant S128x8192 .f32 0x00000000#32) (ix2 a c)
      = ∑ k : Fin 32, x (ix2 a k) * y (ix2 k c) := matmul_at none x y a c
  have h4 : dists x xx cc y (ix2 a c) = Ideal.sqrt (max ((broadcastTo S128x8192 xx broadcasts_S128x1_S128x8192 (ix2 a c) : EReal)
      + broadcastTo S128x8192 cc broadcasts_S1x8192_S128x8192 (ix2 a c) - Ideal.ofBits .f32 0x40000000#32
        * matmul dot_S128x32_S32x8192_S128x8192_1_0_0_1_n_n none x y (constant S128x8192 .f32 0x00000000#32) (ix2 a c))
      (Ideal.ofBits .f32 0x00000000#32)) := rfl
  rw [h4, h1, h2, h3, Ideal.ofBits_zero_f32]
  rfl

/-- The sum of the squares of a block's errors, by 1.25 over the number of entries: the block's part of the loss. -/
def part (u : FVec Ideal S128x32 .f32) : EReal :=
  extractAt ![0, 0, 0] (shapeCast S1x1x1 (multiReduction .add [1, 2] S1
    (shapeCast S1x128x32 (mulf u u) shapeCasts_S128x32_S1x128x32) 0x00000000#32 reduces_S1x128x32_S1 (.inl rfl) rfl)
    shapeCasts_S1_S1x1x1) inpos_S1x1x1_p0_0_0 * Ideal.ofBits .f32 0x36A00000#32

theorem part_eq (u : FVec Ideal S128x32 .f32) :
    part u = (∑ a : Fin 128, ∑ k : Fin 32, (u (ix2 a k) : EReal) * u (ix2 a k)) * Ideal.ofBits .f32 0x36A00000#32 := by
  unfold part extractAt
  rw [shapeCast_apply _ shapeCasts_S1_S1x1x1 _ (ix1 0) (by
    rw [Shape.rowMajor_val_one, Shape.rowMajor_val_three]; rfl)]
  refine congrArg (· * Ideal.ofBits .f32 0x36A00000#32) ?_
  refine (Ideal.reduceAdd_r3_a12 reduces_S1x128x32_S1 _ (ix1 0)).trans ?_
  refine Finset.sum_congr rfl fun a _ => Finset.sum_congr rfl fun k _ => ?_
  refine shapeCast_apply (mulf u u) shapeCasts_S128x32_S1x128x32 _ (ix2 a k) ?_
  rw [Shape.rowMajor_val_two, Shape.rowMajor_val_three]
  show a.val * 32 + k.val = (0 * 128 + a.val) * 32 + k.val
  omega

/-- The block's codes times the codebook, less the block's rows. -/
def errs (x : FVec Ideal S128x32 .f32) (o : FVec Ideal S128x8192 .f32) (y : FVec Ideal S8192x32 .f32) : FVec Ideal S128x32 .f32 :=
  subf (matmul dot_S128x8192_S8192x32_S128x32_1_0_0_1_n_n (some .fp32) o y (constant S128x32 .f32 0x00000000#32)) x

theorem pay1_eq (x : FVec Ideal S128x32 .f32) (o : FVec Ideal S128x8192 .f32) (y : FVec Ideal S8192x32 .f32) (j : S1x1x1.Idx) :
    k0_pay1 x o y j = part (errs x o y) := rfl

theorem errs_at (x : FVec Ideal S128x32 .f32) (o : FVec Ideal S128x8192 .f32) (y : FVec Ideal S8192x32 .f32) (a : Fin 128) (k : Fin 32) :
    errs x o y (ix2 a k) = (∑ c : Fin 8192, o (ix2 a c) * y (ix2 c k)) - (x (ix2 a k) : EReal) := by
  unfold errs
  rw [subf_at]
  exact congrArg (· - (x (ix2 a k) : EReal)) (matmul_at (some .fp32) o y a k)

/-- What the blocks read hold: rows `row` of the inputs, the codebook, and what is made of them. -/
structure Holds (X C : Mat 8192) (row : Fin 128 → Fin 8192) (i : grid0.Coords) (x0 : Vec Ideal S128x8192 .i32)
    (x1 : Vec Ideal S128x32 .f32) (x2 : Vec Ideal S128x1 .f32) (x3 : Vec Ideal S1x8192 .f32) (x4 : Vec Ideal S32x8192 .f32)
    (x5 : Vec Ideal S8192x32 .f32) : Prop where
  counts : ∀ a c, counter i x0 (ix2 a c) = number (row a).val c.val
  rows : ∀ a k, x1 (ix2 a k) = X (ix2 (row a) k)
  rowSquares : ∀ a, x2 (ix2 a 0) = inner X X (row a) (row a)
  entrySquares : ∀ c, x3 (ix2 0 c) = inner C C c c
  columns : ∀ k c, x4 (ix2 k c) = C (ix2 c k)
  entries : ∀ c k, x5 (ix2 c k) = C (ix2 c k)

section
variable {X C : Mat 8192} {row : Fin 128 → Fin 8192} {i : grid0.Coords} {x0 : Vec Ideal S128x8192 .i32}
  {x1 : Vec Ideal S128x32 .f32} {x2 : Vec Ideal S128x1 .f32} {x3 : Vec Ideal S1x8192 .f32} {x4 : Vec Ideal S32x8192 .f32}
  {x5 : Vec Ideal S8192x32 .f32}

theorem off2 : (![0, 0] : Fin 2 → Nat) = fun _ => 0 := by decide
theorem off3 : (![0, 0, 0] : Fin 3 → Nat) = fun _ => 0 := by decide

/-- The block's distances are the plain ones. -/
theorem blockDist_at (h : Holds X C row i x0 x1 x2 x3 x4 x5) (a : Fin 128) (c : Fin 8192) :
    k0_pay50 i x0 x1 x2 x3 x4 x5 (ix2 a c) = Model.dist X C (row a) c := by
  unfold k0_pay50
  rw [View.ld_unit_zero (Val := Elt Ideal) off2 _ x1, View.ld_unit_zero (Val := Elt Ideal) off2 _ x2,
    View.ld_unit_zero (Val := Elt Ideal) off2 _ x3, View.ld_unit_zero (Val := Elt Ideal) off2 _ x4, pay3_eq, dists_at,
    h.rowSquares, h.entrySquares]
  unfold Model.dist Model.inner
  congr 1
  exact Finset.sum_congr rfl fun k _ => by rw [h.rows, h.columns]

/-- The block's codes are the plain ones. -/
theorem blockCode_at (h : Holds X C row i x0 x1 x2 x3 x4 x5) (a : Fin 128) (c : Fin 8192) :
    k0_pay48 (k0_pay50 i x0 x1 x2 x3 x4 x5) (k0_pay49 i x0 x1 x2 x3 x4 x5) (k0_pay60 i x0 x1 x2 x3 x4 x5)
      (k0_pay61 i x0 x1 x2 x3 x4 x5) (k0_pay62 i x0 x1 x2 x3 x4 x5) (ix2 a c) = code X C (row a) c := by
  have hs : ∀ c, scores (k0_pay50 i x0 x1 x2 x3 x4 x5) (lastBits (k0_pay60 i x0 x1 x2 x3 x4 x5) (k0_pay61 i x0 x1 x2 x3 x4 x5)
      (k0_pay62 i x0 x1 x2 x3 x4 x5)) (ix2 a c) = score X C (row a) c := fun c => by
    rw [scores_at, kernelBits_at, h.counts, blockDist_at h]
    rfl
  rw [pay48_eq]
  refine oneHot_at _ _ a (fun c => ?_) (b := best X C (row a)) ?_ c
  · show BitVec.ofNat 32 (0 * 8192 + c.val) = _
    rw [zero_mul, zero_add]
  · rw [show (fun c => scores (k0_pay50 i x0 x1 x2 x3 x4 x5) (lastBits (k0_pay60 i x0 x1 x2 x3 x4 x5)
      (k0_pay61 i x0 x1 x2 x3 x4 x5) (k0_pay62 i x0 x1 x2 x3 x4 x5)) (ix2 a c)) = score X C (row a) from funext hs]
    exact best_isBest X C (row a)

/-- What the block leaves: its codes, -/
theorem out6_at (h : Holds X C row i x0 x1 x2 x3 x4 x5) (a : Fin 128) (c : Fin 8192) :
    out0_6 i x0 x1 x2 x3 x4 x5 (ix2 a c) = code X C (row a) c := by
  unfold out0_6
  rw [View.canon_unit_zero off2]
  exact blockCode_at h a c

/-- and its part of the loss. -/
theorem out7_at (h : Holds X C row i x0 x1 x2 x3 x4 x5) (j : S1x1x1.Idx) : out0_7 i x0 x1 x2 x3 x4 x5 j
    = (∑ a : Fin 128, ∑ k : Fin 32, err X C (row a) k * err X C (row a) k) * Ideal.ofBits .f32 0x36A00000#32 := by
  unfold out0_7
  rw [View.canon_unit_zero off3, View.ld_unit_zero (Val := Elt Ideal) off2 _ x1, View.ld_unit_zero (Val := Elt Ideal) off2 _ x5,
    pay1_eq, part_eq]
  refine congrArg (· * Ideal.ofBits .f32 0x36A00000#32) ?_
  refine Finset.sum_congr rfl fun a _ => Finset.sum_congr rfl fun k _ => ?_
  have he : errs (k0_pay2 x1) (k0_pay48 (k0_pay50 i x0 x1 x2 x3 x4 x5) (k0_pay49 i x0 x1 x2 x3 x4 x5)
      (k0_pay60 i x0 x1 x2 x3 x4 x5) (k0_pay61 i x0 x1 x2 x3 x4 x5) (k0_pay62 i x0 x1 x2 x3 x4 x5)) x5 (ix2 a k)
      = err X C (row a) k := by
    rw [errs_at]
    unfold k0_pay2 err
    rw [shapeCast_self, h.rows, ← sum_code X C (row a) k]
    refine congrArg (· - (X (ix2 (row a) k) : EReal)) (Finset.sum_congr rfl fun c _ => ?_)
    rw [blockCode_at h, h.entries]
  rw [he]
end

end Cert.KernelIdeal.Block

end
-- ==== Proof.KernelEntry.lean ====
/- What the kernel's region finds in the arrays it reads: what the host operations before it make of the arguments. -/
module

public import proofs.«01_k».proof.Proof.Model
public import proofs.«01_k».proof.Proof.Gen.KernelIdeal.Frame
public import Idealize.ShloMosaic.Lib.StableHlo.Run

@[expose] public section

set_option Elab.async false

noncomputable section

namespace Cert.KernelIdeal.Entry

open Cert.KernelIdeal Cert.KernelIdeal.Gen Cert.Rows Cert.Model Idealize.ShloMosaic Idealize.ShloMosaic.TcCoe Idealize.SL.Sem
  Idealize.ShloMosaic.StableHlo

variable (m : (ℓ : Loc nD τ sig) → Buf (Elt Ideal) ℓ) (c : Dev nD)

/-- The inputs as rows, and the codebook. -/
def inputs : FVec Ideal S8192x32 .f32 := shapeCast _ (m ((c.tc : Thread nD τ).loc main_arg0)) shapeCasts_S8x1024x32_S8192x32
def codebook : FVec Ideal S8192x32 .f32 := m ((c.tc : Thread nD τ).loc main_arg1)

/-- The sums of the squares of the rows. -/
def squares (X : FVec Ideal S8192x32 .f32) : FVec Ideal S8192 .f32 :=
  Host.reduceAdd (mulf X X) (constant S_ .f32 0x00000000#32) reducesTo_S8192x32_S8192_d1 h_S_

theorem squares_at (X : FVec Ideal S8192x32 .f32) (r : Fin 8192) : squares X (ix1 r) = inner X X r r :=
  reduceAdd_at reducesTo_S8192x32_S8192_d1 h_S_ (mulf X X) r _ (zero_at _)

/-- The table of positions. -/
def positions : IVec S128x8192 32 :=
  addi (muli (iotaInDim S128x8192 32 0) (broadcastInDim S128x8192 ![] bcast_S_S128x8192 (constantI S_ 32 8192#32)))
    (iotaInDim S128x8192 32 1)

theorem positions_at (a : Fin 128) (d : Fin 8192) : positions (ix2 a d) = number a.val d.val := rfl

theorem entry_v12 : V m c main_v12 = positions := by
  unfold V V0
  simp only [hostOps0, List.flatten_cons, List.flatten_nil, List.append_nil, List.cons_append, List.nil_append]
  after_results <;> rfl

theorem entry_v0 : V m c main_v0 = inputs m c := by
  unfold V V0
  simp only [hostOps0, List.flatten_cons, List.flatten_nil, List.append_nil, List.cons_append, List.nil_append]
  after_results <;> rfl

theorem entry_v3 : V m c main_v3 = broadcastInDim S8192x1 ![0] bcast_S8192_S8192x1_0 (squares (inputs m c)) := by
  unfold V V0
  simp only [hostOps0, List.flatten_cons, List.flatten_nil, List.append_nil, List.cons_append, List.nil_append]
  after_results <;> rfl

theorem entry_v6 : V m c main_v6 = broadcastInDim S1x8192 ![1] bcast_S8192_S1x8192_1 (squares (codebook m c)) := by
  unfold V V0
  simp only [hostOps0, List.flatten_cons, List.flatten_nil, List.append_nil, List.cons_append, List.nil_append]
  after_results <;> rfl

theorem entry_v7 : V m c main_v7 = transpose S32x8192 [1, 0] (codebook m c) transposes_S8192x32_S32x8192_1_0 := by
  unfold V V0
  simp only [hostOps0, List.flatten_cons, List.flatten_nil, List.append_nil, List.cons_append, List.nil_append]
  after_results <;> rfl

theorem v3_at (r : Fin 8192) (j : S8192x1.Idx) (hj : j = ix2 r 0) : V m c main_v3 j = inner (inputs m c) (inputs m c) r r := by
  subst hj
  rw [entry_v3]
  refine (broadcastInDim_apply _ _ _ _ (ix1 r) (by intro b; match b with | ⟨0, _⟩ => rfl)).trans (squares_at _ r)

theorem v6_at (d : Fin 8192) (j : S1x8192.Idx) (hj : j = ix2 0 d) : V m c main_v6 j = inner (codebook m c) (codebook m c) d d := by
  subst hj
  rw [entry_v6]
  refine (broadcastInDim_apply _ _ _ _ (ix1 d) (by intro b; match b with | ⟨0, _⟩ => rfl)).trans (squares_at _ d)

theorem v7_at (k : Fin 32) (d : Fin 8192) : V m c main_v7 (ix2 k d) = codebook m c (ix2 d k) := by
  rw [entry_v7]
  exact transpose_at _ _ k d

end Cert.KernelIdeal.Entry

end
-- ==== Proof.KernelArrays.lean ====
/- What the kernel's two result arrays hold: the codes, and each block's part of the loss. -/
module

public import proofs.«01_k».proof.Proof.KernelBlock
public import proofs.«01_k».proof.Proof.KernelEntry
public import Idealize.ShloMosaic.Lib.Pipeline.ValueKit

@[expose] public section

set_option Elab.async false

noncomputable section

namespace Cert.KernelIdeal.Arrays

open Cert.KernelIdeal Cert.KernelIdeal.Gen Cert.KernelIdeal.Block Cert.KernelIdeal.Entry Cert.Model Idealize.ShloMosaic
  Idealize.ShloMosaic.TcCoe Idealize.SL.Sem

/-! ## The blocks' indices -/

theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0, 0] := (by decide +kernel : ∀ t : Fin grid0.N, _)
theorem coords_eq : ∀ t : Fin cfg0.N, (grid0.coords t 0).val = t.val := (by decide +kernel : ∀ t : Fin grid0.N, _)

/-- The row a block's row is. -/
def row (t : Fin cfg0.N) (a : Fin 128) : Fin 8192 :=
  ⟨128 * t.val + a.val, by have h : t.val < 64 := N_0 ▸ t.isLt; have := a.isLt; omega⟩

/-- The number of a block's row and a column, from the table and the block's offset. -/
theorem number_row (t a d : Nat) : number a d + 1048576#32 * BitVec.ofNat 32 t = number (128 * t + a) d := by
  unfold number
  apply BitVec.eq_of_toNat_eq
  simp only [BitVec.toNat_add, BitVec.toNat_mul, BitVec.toNat_ofNat]
  omega

section
variable (m : (ℓ : Loc nD τ sig) → Buf (Elt Ideal) ℓ) (c : Dev nD) (t : Fin cfg0.N)

theorem block0_at (a : Fin 128) (d : Fin 8192) : iblk m c 0 t (ix2 a d) = number a.val d.val := by
  refine Eq.trans ?_ (positions_at a d)
  refine (congrFun (entry_v12 m c) (((cfg0.win 0).blk t).view.emb (ix2 a d))).trans (congrArg positions ?_)
  blk_ext [index0]

theorem block1_at (a : Fin 128) (k : Fin 32) : iblk m c 1 t (ix2 a k) = inputs m c (ix2 (row t a) k) := by
  refine (congrFun (entry_v0 m c) (((cfg0.win 1).blk t).view.emb (ix2 a k))).trans (congrArg (inputs m c) ?_)
  blk_ext [index1, row]

theorem block2_at (a : Fin 128) : iblk m c 2 t (ix2 a 0) = inner (inputs m c) (inputs m c) (row t a) (row t a) := by
  refine v3_at m c (row t a) (((cfg0.win 2).blk t).view.emb (ix2 a 0)) ?_
  blk_ext [index2, row]

theorem block3_at (d : Fin 8192) : iblk m c 3 t (ix2 0 d) = inner (codebook m c) (codebook m c) d d := by
  refine v6_at m c d (((cfg0.win 3).blk t).view.emb (ix2 0 d)) ?_
  blk_ext [index3]

theorem block4_at (k : Fin 32) (d : Fin 8192) : iblk m c 4 t (ix2 k d) = codebook m c (ix2 d k) := by
  refine Eq.trans ?_ (v7_at m c k d)
  refine congrArg (V m c main_v7) (?_ : ((cfg0.win 4).blk t).view.emb (ix2 k d) = ix2 k d)
  blk_ext [index4]

theorem block5_at (d : Fin 8192) (k : Fin 32) : iblk m c 5 t (ix2 d k) = codebook m c (ix2 d k) := by
  refine (congrFun (V_main_arg1 m c) (((cfg0.win 5).blk t).view.emb (ix2 d k))).trans (congrArg (codebook m c) ?_)
  blk_ext [index5]

/-- What the blocks read at a point hold. -/
theorem holds : Holds (inputs m c) (codebook m c) (row t) (grid0.coords t) (iblk m c 0 t) (iblk m c 1 t) (iblk m c 2 t)
    (iblk m c 3 t) (iblk m c 4 t) (iblk m c 5 t) where
  counts a d := by
    unfold counter
    rw [block0_at, coords_eq]
    exact number_row t.val a.val d.val
  rows := block1_at m c t
  rowSquares := block2_at m c t
  entrySquares := block3_at m c t
  columns := block4_at m c t
  entries := block5_at m c t

end

variable (m : (ℓ : Loc nD τ sig) → Buf (Elt Ideal) ℓ) (c : Dev nD)

/-- The codes of all rows. -/
def codes : FVec Ideal S8192x8192 .f32 := fun j => code (inputs m c) (codebook m c) (j 0) (j 1)

/-- One block's part of the loss. -/
def partOf (t : Fin 64) : EReal :=
  (∑ a : Fin 128, ∑ k : Fin 32, err (inputs m c) (codebook m c) (row (t.cast N_0.symm) a) k
    * err (inputs m c) (codebook m c) (row (t.cast N_0.symm) a) k) * Ideal.ofBits .f32 0x36A00000#32

def parts : FVec Ideal S64x1x1 .f32 := fun j => partOf m c (j 0)

theorem final6 : (dats m 0 c).arrAt 6 cfg0.N = codes m c := by
  refine (dats m 0 c).arrAt_eq_of_covers 6 _ (by decide +kernel) fun t hf y => ?_
  blk_simp
  rw [after0_6, eq_ix2 (n0 := 128) (n1 := 8192) y]
  refine (out6_at (holds m c t) (y 0) (y 1)).trans ?_
  refine congrArg₂ (code (inputs m c) (codebook m c)) (Fin.ext ?_) (Fin.ext ?_)
  · blk_simp [index6, row]
    show 128 * t.val + (y 0).val = t.val * 128 + (y 0).val
    rw [mul_comm]
  · blk_simp [index6, row]

theorem final7 : (dats m 0 c).arrAt 7 cfg0.N = parts m c := by
  refine (dats m 0 c).arrAt_eq_of_covers 7 _ (by decide +kernel) fun t hf y => ?_
  blk_simp
  rw [after0_7]
  refine (out7_at (holds m c t) y).trans ?_
  refine congrArg (partOf m c) (?_ : t.cast N_0 = _)
  apply Fin.ext
  blk_simp [index7]
  rfl

end Cert.KernelIdeal.Arrays

end
-- ==== Proof.KernelLoss.lean ====
/- The kernel's loss, for real arguments: the parts' sum is that of all squared errors, by 1.25 over the number of entries. -/
module

public import proofs.«01_k».proof.Proof.KernelArrays
public import proofs.«01_k».proof.Proof.Gen.KernelIdeal.Read

@[expose] public section

set_option Elab.async false

noncomputable section

namespace Cert.KernelIdeal.Arrays

open Cert.KernelIdeal Cert.KernelIdeal.Gen Cert.KernelIdeal.Entry Cert.Model Cert.Rows Idealize.ShloMosaic
  Idealize.ShloMosaic.TcCoe Idealize.SL.Sem

theorem share_eq : Ideal.ofBits .f32 0x36A00000#32 = ((5 / 1048576 : ℝ) : EReal) := by
  simp [Ideal.ofBits, Ideal.ieee]
  rw [← EReal.coe_mul]
  norm_num

/-- A sum over the rows, block by block. -/
theorem sum_rows (f : Fin 8192 → ℝ) : ∑ t : Fin 64, ∑ a : Fin 128, f (row (t.cast N_0.symm) a) = ∑ r, f r := by
  rw [← Fintype.sum_prod_type' (f := fun (t : Fin 64) (a : Fin 128) => f (row (t.cast N_0.symm) a))]
  refine Fintype.sum_equiv finProdFinEquiv _ _ fun p => congrArg f (Fin.ext ?_)
  show 128 * p.1.val + p.2.val = p.2.val + 128 * p.1.val
  omega

/-- An index of the parts' array is its first coordinate. -/
theorem sum_parts (f : Fin 64 → EReal) : ∑ j : S64x1x1.Idx, f (j 0) = ∑ t, f t := by
  refine Fintype.sum_equiv ⟨fun j => j 0, fun t => ix3 t 0 0, fun j => ?_, fun _ => rfl⟩ _ _ fun _ => rfl
  refine Eq.trans ?_ (ix3_eta (n0 := 64) (n1 := 1) (n2 := 1) j)
  exact congrArg₂ (ix3 (j 0)) (Subsingleton.elim (α := Fin 1) _ _) (Subsingleton.elim (α := Fin 1) _ _)

variable (m : (ℓ : Loc nD τ sig) → Buf (Elt Ideal) ℓ) (c : Dev nD)

theorem loss_at (e : Fin 8192 → Fin 32 → ℝ) (he : ∀ r k, err (inputs m c) (codebook m c) r k = (e r k : EReal)) (j : S_.Idx) :
    shapeCast S_ (Host.reduceAdd (parts m c) (constant (F := Ideal) S_ .f32 0x00000000#32) reducesTo_S64x1x1_S_d0_1_2 h_S_)
      shapeCasts_S_S_ j = (((∑ r, ∑ k, e r k * e r k) * (5 / 1048576) : ℝ) : EReal) := by
  have hp : ∀ t, partOf m c t = (((∑ a, ∑ k, e (row (t.cast N_0.symm) a) k * e (row (t.cast N_0.symm) a) k)
      * (5 / 1048576) : ℝ) : EReal) := fun t => by
    unfold partOf
    rw [share_eq, EReal.coe_mul, coe_sum]
    congr 1
    refine Finset.sum_congr rfl fun a _ => ?_
    rw [coe_sum]
    exact Finset.sum_congr rfl fun k _ => by rw [he, EReal.coe_mul]
  rw [shapeCast_self]
  refine (Read.val_main_v14_apply (parts m c) j).trans ?_
  rw [show Read.val_main_cst_1 (F := Ideal) (Shape.Idx.first h_S_) = (0 : EReal) from Ideal.ofBits_zero_f32, zero_add]
  refine (sum_parts (partOf m c)).trans ?_
  rw [← sum_rows (fun r => ∑ k, e r k * e r k), Finset.sum_mul, coe_sum]
  exact Finset.sum_congr rfl fun t _ => hp t

end Cert.KernelIdeal.Arrays

end
-- ==== Proof.RefOps.lean ====
/- The reference's `main` as the list of its 337 host operations, in six stretches, one for each printed part of
   `main`. The lists write down what is printed, operation by operation, and `main_eq` checks that they do. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

/-- The contents of a buffer of shape `S8192x32` and element type `f32`. -/
abbrev C8192x32f32 (F : FTy → Type) := (⟨S8192x32, .f32⟩ : BufTy).Contents (Elt F)
/-- The contents of a buffer of shape `S_` and element type `f32`. -/
abbrev C0f32 (F : FTy → Type) := (⟨S_, .f32⟩ : BufTy).Contents (Elt F)
/-- The contents of a buffer of shape `S8192` and element type `f32`. -/
abbrev C8192f32 (F : FTy → Type) := (⟨S8192, .f32⟩ : BufTy).Contents (Elt F)
/-- The contents of a buffer of shape `S8192x1` and element type `f32`. -/
abbrev C8192x1f32 (F : FTy → Type) := (⟨S8192x1, .f32⟩ : BufTy).Contents (Elt F)
/-- The contents of a buffer of shape `S1x8192` and element type `f32`. -/
abbrev C1x8192f32 (F : FTy → Type) := (⟨S1x8192, .f32⟩ : BufTy).Contents (Elt F)
/-- The contents of a buffer of shape `S8192x8192` and element type `f32`. -/
abbrev C8192x8192f32 (F : FTy → Type) := (⟨S8192x8192, .f32⟩ : BufTy).Contents (Elt F)
/-- The contents of a buffer of shape `S32x8192` and element type `f32`. -/
abbrev C32x8192f32 (F : FTy → Type) := (⟨S32x8192, .f32⟩ : BufTy).Contents (Elt F)
/-- The contents of a buffer of shape `S_` and element type `i32`. -/
abbrev C0i32 (F : FTy → Type) := (⟨S_, .i32⟩ : BufTy).Contents (Elt F)
/-- The contents of a buffer of shape `S8192x8192` and element type `i32`. -/
abbrev C8192x8192i32 (F : FTy → Type) := (⟨S8192x8192, .i32⟩ : BufTy).Contents (Elt F)

variable {F : FTy → Type} [FloatOps F]

/-- @main's operations 1 … 60 of 337 (window `main_part0`). -/
abbrev ops_part0 : List (HloOp τ sig (Elt F)) :=
  [ reshape main_arg0 main_v0 (rfl : (.f32 : EltTy) = .f32) shapeCasts_S8x1024x32_S8192x32,
    binary main_v0 main_v0 main_v1 (mulf : C8192x32f32 F → C8192x32f32 F → C8192x32f32 F),
    nullary main_cst (constant S_ .f32 0x00000000#32),
    binary main_v1 main_cst main_v2 ((fun x v => Host.reduceAdd x v reducesTo_S8192x32_S8192_d1 h_S_) : C8192x32f32 F → C0f32 F → C8192f32 F),
    unary main_v2 main_v3 (broadcastInDim S8192x1 ![0] bcast_S8192_S8192x1_0 : C8192f32 F → C8192x1f32 F),
    binary main_arg1 main_arg1 main_v4 (mulf : C8192x32f32 F → C8192x32f32 F → C8192x32f32 F),
    nullary main_cst_0 (constant S_ .f32 0x00000000#32),
    binary main_v4 main_cst_0 main_v5 ((fun x v => Host.reduceAdd x v reducesTo_S8192x32_S8192_d1 h_S_) : C8192x32f32 F → C0f32 F → C8192f32 F),
    unary main_v5 main_v6 (broadcastInDim S1x8192 ![1] bcast_S8192_S1x8192_1 : C8192f32 F → C1x8192f32 F),
    unary main_v3 main_v7 (broadcastInDim S8192x8192 ![0, 1] bcast_S8192x1_S8192x8192_0_1 : C8192x1f32 F → C8192x8192f32 F),
    unary main_v6 main_v8 (broadcastInDim S8192x8192 ![0, 1] bcast_S1x8192_S8192x8192_0_1 : C1x8192f32 F → C8192x8192f32 F),
    binary main_v7 main_v8 main_v9 (addf : C8192x8192f32 F → C8192x8192f32 F → C8192x8192f32 F),
    unary main_arg1 main_v10 ((transpose S32x8192 [1, 0] · transposes_S8192x32_S32x8192_1_0) : C8192x32f32 F → C32x8192f32 F),
    binary main_v0 main_v10 main_v11 ((fun l r => Host.dotGeneral dot_S8192x32_S32x8192_S8192x8192_1_0_0_1_n_n none l r) : C8192x32f32 F → C32x8192f32 F → C8192x8192f32 F),
    nullary main_cst_1 (constant S_ .f32 0x40000000#32),
    unary main_cst_1 main_v12 (broadcastInDim S8192x8192 ![] bcast_S_S8192x8192 : C0f32 F → C8192x8192f32 F),
    binary main_v12 main_v11 main_v13 (mulf : C8192x8192f32 F → C8192x8192f32 F → C8192x8192f32 F),
    binary main_v9 main_v13 main_v14 (subf : C8192x8192f32 F → C8192x8192f32 F → C8192x8192f32 F),
    nullary main_cst_2 (constant S_ .f32 0x00000000#32),
    unary main_cst_2 main_v15 (broadcastInDim S8192x8192 ![] bcast_S_S8192x8192 : C0f32 F → C8192x8192f32 F),
    binary main_v14 main_v15 main_v16 (maximumf : C8192x8192f32 F → C8192x8192f32 F → C8192x8192f32 F),
    unary main_v16 main_v17 (Host.sqrt : C8192x8192f32 F → C8192x8192f32 F),
    unary main_v17 main_v18 (Host.negf : C8192x8192f32 F → C8192x8192f32 F),
    nullary main_cst_3 (constant S_ .f32 0x3F800000#32),
    unary main_cst_3 main_v19 (broadcastInDim S8192x8192 ![] bcast_S_S8192x8192 : C0f32 F → C8192x8192f32 F),
    binary main_v18 main_v19 main_v20 (Host.divf : C8192x8192f32 F → C8192x8192f32 F → C8192x8192f32 F),
    nullary main_v21 (iotaInDim S8192x8192 32 0),
    nullary main_c (constantI S_ 32 8192#32),
    unary main_c main_v22 (broadcastInDim S8192x8192 ![] bcast_S_S8192x8192 : C0i32 F → C8192x8192i32 F),
    binary main_v21 main_v22 main_v23 (muli : C8192x8192i32 F → C8192x8192i32 F → C8192x8192i32 F),
    nullary main_v24 (iotaInDim S8192x8192 32 1),
    binary main_v23 main_v24 main_v25 (addi : C8192x8192i32 F → C8192x8192i32 F → C8192x8192i32 F),
    nullary main_c_4 (constantI S_ 32 0#32),
    unary main_c_4 main_v26 (broadcastInDim S8192x8192 ![] bcast_S_S8192x8192 : C0i32 F → C8192x8192i32 F),
    nullary main_c_5 (constantI S_ 32 2247515013#32),
    unary main_c_5 main_v27 (broadcastInDim S8192x8192 ![] bcast_S_S8192x8192 : C0i32 F → C8192x8192i32 F),
    binary main_v26 main_v27 main_v28 (addi : C8192x8192i32 F → C8192x8192i32 F → C8192x8192i32 F),
    nullary main_c_6 (constantI S_ 32 2545468385#32),
    unary main_c_6 main_v29 (broadcastInDim S8192x8192 ![] bcast_S_S8192x8192 : C0i32 F → C8192x8192i32 F),
    binary main_v25 main_v29 main_v30 (addi : C8192x8192i32 F → C8192x8192i32 F → C8192x8192i32 F),
    binary main_v28 main_v30 main_v31 (addi : C8192x8192i32 F → C8192x8192i32 F → C8192x8192i32 F),
    nullary main_c_7 (constantI S_ 32 13#32),
    unary main_c_7 main_v32 (broadcastInDim S8192x8192 ![] bcast_S_S8192x8192 : C0i32 F → C8192x8192i32 F),
    binary main_v30 main_v32 main_v33 (Host.shli : C8192x8192i32 F → C8192x8192i32 F → C8192x8192i32 F),
    nullary main_c_8 (constantI S_ 32 19#32),
    unary main_c_8 main_v34 (broadcastInDim S8192x8192 ![] bcast_S_S8192x8192 : C0i32 F → C8192x8192i32 F),
    binary main_v30 main_v34 main_v35 (Host.shrui : C8192x8192i32 F → C8192x8192i32 F → C8192x8192i32 F),
    binary main_v33 main_v35 main_v36 (ori : C8192x8192i32 F → C8192x8192i32 F → C8192x8192i32 F),
    binary main_v36 main_v31 main_v37 (xori : C8192x8192i32 F → C8192x8192i32 F → C8192x8192i32 F),
    binary main_v31 main_v37 main_v38 (addi : C8192x8192i32 F → C8192x8192i32 F → C8192x8192i32 F),
    nullary main_c_9 (constantI S_ 32 15#32),
    unary main_c_9 main_v39 (broadcastInDim S8192x8192 ![] bcast_S_S8192x8192 : C0i32 F → C8192x8192i32 F),
    binary main_v37 main_v39 main_v40 (Host.shli : C8192x8192i32 F → C8192x8192i32 F → C8192x8192i32 F),
    nullary main_c_10 (constantI S_ 32 17#32),
    unary main_c_10 main_v41 (broadcastInDim S8192x8192 ![] bcast_S_S8192x8192 : C0i32 F → C8192x8192i32 F),
    binary main_v37 main_v41 main_v42 (Host.shrui : C8192x8192i32 F → C8192x8192i32 F → C8192x8192i32 F),
    binary main_v40 main_v42 main_v43 (ori : C8192x8192i32 F → C8192x8192i32 F → C8192x8192i32 F),
    binary main_v43 main_v38 main_v44 (xori : C8192x8192i32 F → C8192x8192i32 F → C8192x8192i32 F),
    binary main_v38 main_v44 main_v45 (addi : C8192x8192i32 F → C8192x8192i32 F → C8192x8192i32 F),
    nullary main_c_11 (constantI S_ 32 26#32) ]

/-- @main's operations 61 … 120 of 337 (window `main_part1`). -/
abbrev ops_part1 : List (HloOp τ sig (Elt F)) :=
  [ unary main_c_11 main_v46 (broadcastInDim S8192x8192 ![] bcast_S_S8192x8192 : C0i32 F → C8192x8192i32 F),
    binary main_v44 main_v46 main_v47 (Host.shli : C8192x8192i32 F → C8192x8192i32 F → C8192x8192i32 F),
    nullary main_c_12 (constantI S_ 32 6#32),
    unary main_c_12 main_v48 (broadcastInDim S8192x8192 ![] bcast_S_S8192x8192 : C0i32 F → C8192x8192i32 F),
    binary main_v44 main_v48 main_v49 (Host.shrui : C8192x8192i32 F → C8192x8192i32 F → C8192x8192i32 F),
    binary main_v47 main_v49 main_v50 (ori : C8192x8192i32 F → C8192x8192i32 F → C8192x8192i32 F),
    binary main_v50 main_v45 main_v51 (xori : C8192x8192i32 F → C8192x8192i32 F → C8192x8192i32 F),
    binary main_v45 main_v51 main_v52 (addi : C8192x8192i32 F → C8192x8192i32 F → C8192x8192i32 F),
    nullary main_c_13 (constantI S_ 32 6#32),
    unary main_c_13 main_v53 (broadcastInDim S8192x8192 ![] bcast_S_S8192x8192 : C0i32 F → C8192x8192i32 F),
    binary main_v51 main_v53 main_v54 (Host.shli : C8192x8192i32 F → C8192x8192i32 F → C8192x8192i32 F),
    nullary main_c_14 (constantI S_ 32 26#32),
    unary main_c_14 main_v55 (broadcastInDim S8192x8192 ![] bcast_S_S8192x8192 : C0i32 F → C8192x8192i32 F),
    binary main_v51 main_v55 main_v56 (Host.shrui : C8192x8192i32 F → C8192x8192i32 F → C8192x8192i32 F),
    binary main_v54 main_v56 main_v57 (ori : C8192x8192i32 F → C8192x8192i32 F → C8192x8192i32 F),
    binary main_v57 main_v52 main_v58 (xori : C8192x8192i32 F → C8192x8192i32 F → C8192x8192i32 F),
    nullary main_c_15 (constantI S_ 32 2545468385#32),
    unary main_c_15 main_v59 (broadcastInDim S8192x8192 ![] bcast_S_S8192x8192 : C0i32 F → C8192x8192i32 F),
    binary main_v52 main_v59 main_v60 (addi : C8192x8192i32 F → C8192x8192i32 F → C8192x8192i32 F),
    nullary main_c_16 (constantI S_ 32 161448894#32),
    unary main_c_16 main_v61 (broadcastInDim S8192x8192 ![] bcast_S_S8192x8192 : C0i32 F → C8192x8192i32 F),
    binary main_v58 main_v61 main_v62 (addi : C8192x8192i32 F → C8192x8192i32 F → C8192x8192i32 F),
    nullary main_c_17 (constantI S_ 32 1#32),
    unary main_c_17 main_v63 (broadcastInDim S8192x8192 ![] bcast_S_S8192x8192 : C0i32 F → C8192x8192i32 F),
    binary main_v62 main_v63 main_v64 (addi : C8192x8192i32 F → C8192x8192i32 F → C8192x8192i32 F),
    binary main_v60 main_v64 main_v65 (addi : C8192x8192i32 F → C8192x8192i32 F → C8192x8192i32 F),
    nullary main_c_18 (constantI S_ 32 17#32),
    unary main_c_18 main_v66 (broadcastInDim S8192x8192 ![] bcast_S_S8192x8192 : C0i32 F → C8192x8192i32 F),
    binary main_v64 main_v66 main_v67 (Host.shli : C8192x8192i32 F → C8192x8192i32 F → C8192x8192i32 F),
    nullary main_c_19 (constantI S_ 32 15#32),
    unary main_c_19 main_v68 (broadcastInDim S8192x8192 ![] bcast_S_S8192x8192 : C0i32 F → C8192x8192i32 F),
    binary main_v64 main_v68 main_v69 (Host.shrui : C8192x8192i32 F → C8192x8192i32 F → C8192x8192i32 F),
    binary main_v67 main_v69 main_v70 (ori : C8192x8192i32 F → C8192x8192i32 F → C8192x8192i32 F),
    binary main_v70 main_v65 main_v71 (xori : C8192x8192i32 F → C8192x8192i32 F → C8192x8192i32 F),
    binary main_v65 main_v71 main_v72 (addi : C8192x8192i32 F → C8192x8192i32 F → C8192x8192i32 F),
    nullary main_c_20 (constantI S_ 32 29#32),
    unary main_c_20 main_v73 (broadcastInDim S8192x8192 ![] bcast_S_S8192x8192 : C0i32 F → C8192x8192i32 F),
    binary main_v71 main_v73 main_v74 (Host.shli : C8192x8192i32 F → C8192x8192i32 F → C8192x8192i32 F),
    nullary main_c_21 (constantI S_ 32 3#32),
    unary main_c_21 main_v75 (broadcastInDim S8192x8192 ![] bcast_S_S8192x8192 : C0i32 F → C8192x8192i32 F),
    binary main_v71 main_v75 main_v76 (Host.shrui : C8192x8192i32 F → C8192x8192i32 F → C8192x8192i32 F),
    binary main_v74 main_v76 main_v77 (ori : C8192x8192i32 F → C8192x8192i32 F → C8192x8192i32 F),
    binary main_v77 main_v72 main_v78 (xori : C8192x8192i32 F → C8192x8192i32 F → C8192x8192i32 F),
    binary main_v72 main_v78 main_v79 (addi : C8192x8192i32 F → C8192x8192i32 F → C8192x8192i32 F),
    nullary main_c_22 (constantI S_ 32 16#32),
    unary main_c_22 main_v80 (broadcastInDim S8192x8192 ![] bcast_S_S8192x8192 : C0i32 F → C8192x8192i32 F),
    binary main_v78 main_v80 main_v81 (Host.shli : C8192x8192i32 F → C8192x8192i32 F → C8192x8192i32 F),
    nullary main_c_23 (constantI S_ 32 16#32),
    unary main_c_23 main_v82 (broadcastInDim S8192x8192 ![] bcast_S_S8192x8192 : C0i32 F → C8192x8192i32 F),
    binary main_v78 main_v82 main_v83 (Host.shrui : C8192x8192i32 F → C8192x8192i32 F → C8192x8192i32 F),
    binary main_v81 main_v83 main_v84 (ori : C8192x8192i32 F → C8192x8192i32 F → C8192x8192i32 F),
    binary main_v84 main_v79 main_v85 (xori : C8192x8192i32 F → C8192x8192i32 F → C8192x8192i32 F),
    binary main_v79 main_v85 main_v86 (addi : C8192x8192i32 F → C8192x8192i32 F → C8192x8192i32 F),
    nullary main_c_24 (constantI S_ 32 24#32),
    unary main_c_24 main_v87 (broadcastInDim S8192x8192 ![] bcast_S_S8192x8192 : C0i32 F → C8192x8192i32 F),
    binary main_v85 main_v87 main_v88 (Host.shli : C8192x8192i32 F → C8192x8192i32 F → C8192x8192i32 F),
    nullary main_c_25 (constantI S_ 32 8#32),
    unary main_c_25 main_v89 (broadcastInDim S8192x8192 ![] bcast_S_S8192x8192 : C0i32 F → C8192x8192i32 F),
    binary main_v85 main_v89 main_v90 (Host.shrui : C8192x8192i32 F → C8192x8192i32 F → C8192x8192i32 F),
    binary main_v88 main_v90 main_v91 (ori : C8192x8192i32 F → C8192x8192i32 F → C8192x8192i32 F) ]

/-- @main's operations 121 … 180 of 337 (window `main_part2`). -/
abbrev ops_part2 : List (HloOp τ sig (Elt F)) :=
  [ binary main_v91 main_v86 main_v92 (xori : C8192x8192i32 F → C8192x8192i32 F → C8192x8192i32 F),
    nullary main_c_26 (constantI S_ 32 161448894#32),
    unary main_c_26 main_v93 (broadcastInDim S8192x8192 ![] bcast_S_S8192x8192 : C0i32 F → C8192x8192i32 F),
    binary main_v86 main_v93 main_v94 (addi : C8192x8192i32 F → C8192x8192i32 F → C8192x8192i32 F),
    nullary main_c_27 (constantI S_ 32 2247515013#32),
    unary main_c_27 main_v95 (broadcastInDim S8192x8192 ![] bcast_S_S8192x8192 : C0i32 F → C8192x8192i32 F),
    binary main_v92 main_v95 main_v96 (addi : C8192x8192i32 F → C8192x8192i32 F → C8192x8192i32 F),
    nullary main_c_28 (constantI S_ 32 2#32),
    unary main_c_28 main_v97 (broadcastInDim S8192x8192 ![] bcast_S_S8192x8192 : C0i32 F → C8192x8192i32 F),
    binary main_v96 main_v97 main_v98 (addi : C8192x8192i32 F → C8192x8192i32 F → C8192x8192i32 F),
    binary main_v94 main_v98 main_v99 (addi : C8192x8192i32 F → C8192x8192i32 F → C8192x8192i32 F),
    nullary main_c_29 (constantI S_ 32 13#32),
    unary main_c_29 main_v100 (broadcastInDim S8192x8192 ![] bcast_S_S8192x8192 : C0i32 F → C8192x8192i32 F),
    binary main_v98 main_v100 main_v101 (Host.shli : C8192x8192i32 F → C8192x8192i32 F → C8192x8192i32 F),
    nullary main_c_30 (constantI S_ 32 19#32),
    unary main_c_30 main_v102 (broadcastInDim S8192x8192 ![] bcast_S_S8192x8192 : C0i32 F → C8192x8192i32 F),
    binary main_v98 main_v102 main_v103 (Host.shrui : C8192x8192i32 F → C8192x8192i32 F → C8192x8192i32 F),
    binary main_v101 main_v103 main_v104 (ori : C8192x8192i32 F → C8192x8192i32 F → C8192x8192i32 F),
    binary main_v104 main_v99 main_v105 (xori : C8192x8192i32 F → C8192x8192i32 F → C8192x8192i32 F),
    binary main_v99 main_v105 main_v106 (addi : C8192x8192i32 F → C8192x8192i32 F → C8192x8192i32 F),
    nullary main_c_31 (constantI S_ 32 15#32),
    unary main_c_31 main_v107 (broadcastInDim S8192x8192 ![] bcast_S_S8192x8192 : C0i32 F → C8192x8192i32 F),
    binary main_v105 main_v107 main_v108 (Host.shli : C8192x8192i32 F → C8192x8192i32 F → C8192x8192i32 F),
    nullary main_c_32 (constantI S_ 32 17#32),
    unary main_c_32 main_v109 (broadcastInDim S8192x8192 ![] bcast_S_S8192x8192 : C0i32 F → C8192x8192i32 F),
    binary main_v105 main_v109 main_v110 (Host.shrui : C8192x8192i32 F → C8192x8192i32 F → C8192x8192i32 F),
    binary main_v108 main_v110 main_v111 (ori : C8192x8192i32 F → C8192x8192i32 F → C8192x8192i32 F),
    binary main_v111 main_v106 main_v112 (xori : C8192x8192i32 F → C8192x8192i32 F → C8192x8192i32 F),
    binary main_v106 main_v112 main_v113 (addi : C8192x8192i32 F → C8192x8192i32 F → C8192x8192i32 F),
    nullary main_c_33 (constantI S_ 32 26#32),
    unary main_c_33 main_v114 (broadcastInDim S8192x8192 ![] bcast_S_S8192x8192 : C0i32 F → C8192x8192i32 F),
    binary main_v112 main_v114 main_v115 (Host.shli : C8192x8192i32 F → C8192x8192i32 F → C8192x8192i32 F),
    nullary main_c_34 (constantI S_ 32 6#32),
    unary main_c_34 main_v116 (broadcastInDim S8192x8192 ![] bcast_S_S8192x8192 : C0i32 F → C8192x8192i32 F),
    binary main_v112 main_v116 main_v117 (Host.shrui : C8192x8192i32 F → C8192x8192i32 F → C8192x8192i32 F),
    binary main_v115 main_v117 main_v118 (ori : C8192x8192i32 F → C8192x8192i32 F → C8192x8192i32 F),
    binary main_v118 main_v113 main_v119 (xori : C8192x8192i32 F → C8192x8192i32 F → C8192x8192i32 F),
    binary main_v113 main_v119 main_v120 (addi : C8192x8192i32 F → C8192x8192i32 F → C8192x8192i32 F),
    nullary main_c_35 (constantI S_ 32 6#32),
    unary main_c_35 main_v121 (broadcastInDim S8192x8192 ![] bcast_S_S8192x8192 : C0i32 F → C8192x8192i32 F),
    binary main_v119 main_v121 main_v122 (Host.shli : C8192x8192i32 F → C8192x8192i32 F → C8192x8192i32 F),
    nullary main_c_36 (constantI S_ 32 26#32),
    unary main_c_36 main_v123 (broadcastInDim S8192x8192 ![] bcast_S_S8192x8192 : C0i32 F → C8192x8192i32 F),
    binary main_v119 main_v123 main_v124 (Host.shrui : C8192x8192i32 F → C8192x8192i32 F → C8192x8192i32 F),
    binary main_v122 main_v124 main_v125 (ori : C8192x8192i32 F → C8192x8192i32 F → C8192x8192i32 F),
    binary main_v125 main_v120 main_v126 (xori : C8192x8192i32 F → C8192x8192i32 F → C8192x8192i32 F),
    nullary main_c_37 (constantI S_ 32 2247515013#32),
    unary main_c_37 main_v127 (broadcastInDim S8192x8192 ![] bcast_S_S8192x8192 : C0i32 F → C8192x8192i32 F),
    binary main_v120 main_v127 main_v128 (addi : C8192x8192i32 F → C8192x8192i32 F → C8192x8192i32 F),
    nullary main_c_38 (constantI S_ 32 2545468385#32),
    unary main_c_38 main_v129 (broadcastInDim S8192x8192 ![] bcast_S_S8192x8192 : C0i32 F → C8192x8192i32 F),
    binary main_v126 main_v129 main_v130 (addi : C8192x8192i32 F → C8192x8192i32 F → C8192x8192i32 F),
    nullary main_c_39 (constantI S_ 32 3#32),
    unary main_c_39 main_v131 (broadcastInDim S8192x8192 ![] bcast_S_S8192x8192 : C0i32 F → C8192x8192i32 F),
    binary main_v130 main_v131 main_v132 (addi : C8192x8192i32 F → C8192x8192i32 F → C8192x8192i32 F),
    binary main_v128 main_v132 main_v133 (addi : C8192x8192i32 F → C8192x8192i32 F → C8192x8192i32 F),
    nullary main_c_40 (constantI S_ 32 17#32),
    unary main_c_40 main_v134 (broadcastInDim S8192x8192 ![] bcast_S_S8192x8192 : C0i32 F → C8192x8192i32 F),
    binary main_v132 main_v134 main_v135 (Host.shli : C8192x8192i32 F → C8192x8192i32 F → C8192x8192i32 F),
    nullary main_c_41 (constantI S_ 32 15#32) ]

/-- @main's operations 181 … 240 of 337 (window `main_part3`). -/
abbrev ops_part3 : List (HloOp τ sig (Elt F)) :=
  [ unary main_c_41 main_v136 (broadcastInDim S8192x8192 ![] bcast_S_S8192x8192 : C0i32 F → C8192x8192i32 F),
    binary main_v132 main_v136 main_v137 (Host.shrui : C8192x8192i32 F → C8192x8192i32 F → C8192x8192i32 F),
    binary main_v135 main_v137 main_v138 (ori : C8192x8192i32 F → C8192x8192i32 F → C8192x8192i32 F),
    binary main_v138 main_v133 main_v139 (xori : C8192x8192i32 F → C8192x8192i32 F → C8192x8192i32 F),
    binary main_v133 main_v139 main_v140 (addi : C8192x8192i32 F → C8192x8192i32 F → C8192x8192i32 F),
    nullary main_c_42 (constantI S_ 32 29#32),
    unary main_c_42 main_v141 (broadcastInDim S8192x8192 ![] bcast_S_S8192x8192 : C0i32 F → C8192x8192i32 F),
    binary main_v139 main_v141 main_v142 (Host.shli : C8192x8192i32 F → C8192x8192i32 F → C8192x8192i32 F),
    nullary main_c_43 (constantI S_ 32 3#32),
    unary main_c_43 main_v143 (broadcastInDim S8192x8192 ![] bcast_S_S8192x8192 : C0i32 F → C8192x8192i32 F),
    binary main_v139 main_v143 main_v144 (Host.shrui : C8192x8192i32 F → C8192x8192i32 F → C8192x8192i32 F),
    binary main_v142 main_v144 main_v145 (ori : C8192x8192i32 F → C8192x8192i32 F → C8192x8192i32 F),
    binary main_v145 main_v140 main_v146 (xori : C8192x8192i32 F → C8192x8192i32 F → C8192x8192i32 F),
    binary main_v140 main_v146 main_v147 (addi : C8192x8192i32 F → C8192x8192i32 F → C8192x8192i32 F),
    nullary main_c_44 (constantI S_ 32 16#32),
    unary main_c_44 main_v148 (broadcastInDim S8192x8192 ![] bcast_S_S8192x8192 : C0i32 F → C8192x8192i32 F),
    binary main_v146 main_v148 main_v149 (Host.shli : C8192x8192i32 F → C8192x8192i32 F → C8192x8192i32 F),
    nullary main_c_45 (constantI S_ 32 16#32),
    unary main_c_45 main_v150 (broadcastInDim S8192x8192 ![] bcast_S_S8192x8192 : C0i32 F → C8192x8192i32 F),
    binary main_v146 main_v150 main_v151 (Host.shrui : C8192x8192i32 F → C8192x8192i32 F → C8192x8192i32 F),
    binary main_v149 main_v151 main_v152 (ori : C8192x8192i32 F → C8192x8192i32 F → C8192x8192i32 F),
    binary main_v152 main_v147 main_v153 (xori : C8192x8192i32 F → C8192x8192i32 F → C8192x8192i32 F),
    binary main_v147 main_v153 main_v154 (addi : C8192x8192i32 F → C8192x8192i32 F → C8192x8192i32 F),
    nullary main_c_46 (constantI S_ 32 24#32),
    unary main_c_46 main_v155 (broadcastInDim S8192x8192 ![] bcast_S_S8192x8192 : C0i32 F → C8192x8192i32 F),
    binary main_v153 main_v155 main_v156 (Host.shli : C8192x8192i32 F → C8192x8192i32 F → C8192x8192i32 F),
    nullary main_c_47 (constantI S_ 32 8#32),
    unary main_c_47 main_v157 (broadcastInDim S8192x8192 ![] bcast_S_S8192x8192 : C0i32 F → C8192x8192i32 F),
    binary main_v153 main_v157 main_v158 (Host.shrui : C8192x8192i32 F → C8192x8192i32 F → C8192x8192i32 F),
    binary main_v156 main_v158 main_v159 (ori : C8192x8192i32 F → C8192x8192i32 F → C8192x8192i32 F),
    binary main_v159 main_v154 main_v160 (xori : C8192x8192i32 F → C8192x8192i32 F → C8192x8192i32 F),
    nullary main_c_48 (constantI S_ 32 2545468385#32),
    unary main_c_48 main_v161 (broadcastInDim S8192x8192 ![] bcast_S_S8192x8192 : C0i32 F → C8192x8192i32 F),
    binary main_v154 main_v161 main_v162 (addi : C8192x8192i32 F → C8192x8192i32 F → C8192x8192i32 F),
    nullary main_c_49 (constantI S_ 32 161448894#32),
    unary main_c_49 main_v163 (broadcastInDim S8192x8192 ![] bcast_S_S8192x8192 : C0i32 F → C8192x8192i32 F),
    binary main_v160 main_v163 main_v164 (addi : C8192x8192i32 F → C8192x8192i32 F → C8192x8192i32 F),
    nullary main_c_50 (constantI S_ 32 4#32),
    unary main_c_50 main_v165 (broadcastInDim S8192x8192 ![] bcast_S_S8192x8192 : C0i32 F → C8192x8192i32 F),
    binary main_v164 main_v165 main_v166 (addi : C8192x8192i32 F → C8192x8192i32 F → C8192x8192i32 F),
    binary main_v162 main_v166 main_v167 (addi : C8192x8192i32 F → C8192x8192i32 F → C8192x8192i32 F),
    nullary main_c_51 (constantI S_ 32 13#32),
    unary main_c_51 main_v168 (broadcastInDim S8192x8192 ![] bcast_S_S8192x8192 : C0i32 F → C8192x8192i32 F),
    binary main_v166 main_v168 main_v169 (Host.shli : C8192x8192i32 F → C8192x8192i32 F → C8192x8192i32 F),
    nullary main_c_52 (constantI S_ 32 19#32),
    unary main_c_52 main_v170 (broadcastInDim S8192x8192 ![] bcast_S_S8192x8192 : C0i32 F → C8192x8192i32 F),
    binary main_v166 main_v170 main_v171 (Host.shrui : C8192x8192i32 F → C8192x8192i32 F → C8192x8192i32 F),
    binary main_v169 main_v171 main_v172 (ori : C8192x8192i32 F → C8192x8192i32 F → C8192x8192i32 F),
    binary main_v172 main_v167 main_v173 (xori : C8192x8192i32 F → C8192x8192i32 F → C8192x8192i32 F),
    binary main_v167 main_v173 main_v174 (addi : C8192x8192i32 F → C8192x8192i32 F → C8192x8192i32 F),
    nullary main_c_53 (constantI S_ 32 15#32),
    unary main_c_53 main_v175 (broadcastInDim S8192x8192 ![] bcast_S_S8192x8192 : C0i32 F → C8192x8192i32 F),
    binary main_v173 main_v175 main_v176 (Host.shli : C8192x8192i32 F → C8192x8192i32 F → C8192x8192i32 F),
    nullary main_c_54 (constantI S_ 32 17#32),
    unary main_c_54 main_v177 (broadcastInDim S8192x8192 ![] bcast_S_S8192x8192 : C0i32 F → C8192x8192i32 F),
    binary main_v173 main_v177 main_v178 (Host.shrui : C8192x8192i32 F → C8192x8192i32 F → C8192x8192i32 F),
    binary main_v176 main_v178 main_v179 (ori : C8192x8192i32 F → C8192x8192i32 F → C8192x8192i32 F),
    binary main_v179 main_v174 main_v180 (xori : C8192x8192i32 F → C8192x8192i32 F → C8192x8192i32 F),
    binary main_v174 main_v180 main_v181 (addi : C8192x8192i32 F → C8192x8192i32 F → C8192x8192i32 F),
    nullary main_c_55 (constantI S_ 32 26#32) ]

/-- @main's operations 241 … 300 of 337 (window `main_part4`). -/
abbrev ops_part4 : List (HloOp τ sig (Elt F)) :=
  [ unary main_c_55 main_v182 (broadcastInDim S8192x8192 ![] bcast_S_S8192x8192 : C0i32 F → C8192x8192i32 F),
    binary main_v180 main_v182 main_v183 (Host.shli : C8192x8192i32 F → C8192x8192i32 F → C8192x8192i32 F),
    nullary main_c_56 (constantI S_ 32 6#32),
    unary main_c_56 main_v184 (broadcastInDim S8192x8192 ![] bcast_S_S8192x8192 : C0i32 F → C8192x8192i32 F),
    binary main_v180 main_v184 main_v185 (Host.shrui : C8192x8192i32 F → C8192x8192i32 F → C8192x8192i32 F),
    binary main_v183 main_v185 main_v186 (ori : C8192x8192i32 F → C8192x8192i32 F → C8192x8192i32 F),
    binary main_v186 main_v181 main_v187 (xori : C8192x8192i32 F → C8192x8192i32 F → C8192x8192i32 F),
    binary main_v181 main_v187 main_v188 (addi : C8192x8192i32 F → C8192x8192i32 F → C8192x8192i32 F),
    nullary main_c_57 (constantI S_ 32 6#32),
    unary main_c_57 main_v189 (broadcastInDim S8192x8192 ![] bcast_S_S8192x8192 : C0i32 F → C8192x8192i32 F),
    binary main_v187 main_v189 main_v190 (Host.shli : C8192x8192i32 F → C8192x8192i32 F → C8192x8192i32 F),
    nullary main_c_58 (constantI S_ 32 26#32),
    unary main_c_58 main_v191 (broadcastInDim S8192x8192 ![] bcast_S_S8192x8192 : C0i32 F → C8192x8192i32 F),
    binary main_v187 main_v191 main_v192 (Host.shrui : C8192x8192i32 F → C8192x8192i32 F → C8192x8192i32 F),
    binary main_v190 main_v192 main_v193 (ori : C8192x8192i32 F → C8192x8192i32 F → C8192x8192i32 F),
    binary main_v193 main_v188 main_v194 (xori : C8192x8192i32 F → C8192x8192i32 F → C8192x8192i32 F),
    nullary main_c_59 (constantI S_ 32 161448894#32),
    unary main_c_59 main_v195 (broadcastInDim S8192x8192 ![] bcast_S_S8192x8192 : C0i32 F → C8192x8192i32 F),
    binary main_v188 main_v195 main_v196 (addi : C8192x8192i32 F → C8192x8192i32 F → C8192x8192i32 F),
    nullary main_c_60 (constantI S_ 32 2247515013#32),
    unary main_c_60 main_v197 (broadcastInDim S8192x8192 ![] bcast_S_S8192x8192 : C0i32 F → C8192x8192i32 F),
    binary main_v194 main_v197 main_v198 (addi : C8192x8192i32 F → C8192x8192i32 F → C8192x8192i32 F),
    nullary main_c_61 (constantI S_ 32 5#32),
    unary main_c_61 main_v199 (broadcastInDim S8192x8192 ![] bcast_S_S8192x8192 : C0i32 F → C8192x8192i32 F),
    binary main_v198 main_v199 main_v200 (addi : C8192x8192i32 F → C8192x8192i32 F → C8192x8192i32 F),
    binary main_v196 main_v200 main_v201 (xori : C8192x8192i32 F → C8192x8192i32 F → C8192x8192i32 F),
    nullary main_c_62 (constantI S_ 32 9#32),
    unary main_c_62 main_v202 (broadcastInDim S8192x8192 ![] bcast_S_S8192x8192 : C0i32 F → C8192x8192i32 F),
    binary main_v201 main_v202 main_v203 (Host.shrui : C8192x8192i32 F → C8192x8192i32 F → C8192x8192i32 F),
    nullary main_c_63 (constantI S_ 32 1065353216#32),
    unary main_c_63 main_v204 (broadcastInDim S8192x8192 ![] bcast_S_S8192x8192 : C0i32 F → C8192x8192i32 F),
    binary main_v203 main_v204 main_v205 (ori : C8192x8192i32 F → C8192x8192i32 F → C8192x8192i32 F),
    unary main_v205 main_v206 (bitcastToFloat (F := F) .f32 : C8192x8192i32 F → C8192x8192f32 F),
    nullary main_cst_64 (constant S_ .f32 0x3F800000#32),
    unary main_cst_64 main_v207 (broadcastInDim S8192x8192 ![] bcast_S_S8192x8192 : C0f32 F → C8192x8192f32 F),
    binary main_v206 main_v207 main_v208 (subf : C8192x8192f32 F → C8192x8192f32 F → C8192x8192f32 F),
    nullary main_cst_65 (constant S_ .f32 0x3F800000#32),
    unary main_cst_65 main_v209 (broadcastInDim S8192x8192 ![] bcast_S_S8192x8192 : C0f32 F → C8192x8192f32 F),
    binary main_v208 main_v209 main_v210 (mulf : C8192x8192f32 F → C8192x8192f32 F → C8192x8192f32 F),
    nullary main_cst_66 (constant S_ .f32 0x3089705F#32),
    unary main_cst_66 main_v211 (broadcastInDim S8192x8192 ![] bcast_S_S8192x8192 : C0f32 F → C8192x8192f32 F),
    binary main_v210 main_v211 main_v212 (addf : C8192x8192f32 F → C8192x8192f32 F → C8192x8192f32 F),
    nullary main_cst_67 (constant S_ .f32 0x3089705F#32),
    unary main_cst_67 main_v213 (broadcastInDim S8192x8192 ![] bcast_S_S8192x8192 : C0f32 F → C8192x8192f32 F),
    binary main_v213 main_v212 main_v214 (maximumf : C8192x8192f32 F → C8192x8192f32 F → C8192x8192f32 F),
    unary main_v214 main_v215 (Host.log : C8192x8192f32 F → C8192x8192f32 F),
    unary main_v215 main_v216 (Host.negf : C8192x8192f32 F → C8192x8192f32 F),
    unary main_v216 main_v217 (Host.log : C8192x8192f32 F → C8192x8192f32 F),
    unary main_v217 main_v218 (Host.negf : C8192x8192f32 F → C8192x8192f32 F),
    binary main_v20 main_v218 main_v219 (addf : C8192x8192f32 F → C8192x8192f32 F → C8192x8192f32 F),
    nullary main_cst_68 (constant S_ .f32 0x3F800000#32),
    unary main_cst_68 main_v220 (broadcastInDim S8192x8192 ![] bcast_S_S8192x8192 : C0f32 F → C8192x8192f32 F),
    binary main_v219 main_v220 main_v221 (Host.divf : C8192x8192f32 F → C8192x8192f32 F → C8192x8192f32 F),
    nullary main_cst_69 (constant S_ .f32 0xFF800000#32),
    binary main_v221 main_cst_69 main_v222 ((fun x v => Host.reduce FloatOps.maximumf x v reducesTo_S8192x8192_S8192_d1 h_S_) : C8192x8192f32 F → C0f32 F → C8192f32 F),
    nullary main_cst_70 (constant S_ .f32 0xFF800000#32),
    unary main_cst_70 main_v223 (broadcastInDim S8192 ![] bcast_S_S8192 : C0f32 F → C8192f32 F),
    binary main_v223 main_v222 main_v224 (maximumf : C8192f32 F → C8192f32 F → C8192f32 F),
    unary main_v224 main_v225 (broadcastInDim S8192x1 ![0] bcast_S8192_S8192x1_0 : C8192f32 F → C8192x1f32 F),
    unary main_v225 main_v226 (broadcastInDim S8192x8192 ![0, 1] bcast_S8192x1_S8192x8192_0_1 : C8192x1f32 F → C8192x8192f32 F) ]

/-- @main's operations 301 … 337 of 337 (window `main_part5`). -/
abbrev ops_part5 : List (HloOp τ sig (Elt F)) :=
  [ binary main_v221 main_v226 main_v227 (subf : C8192x8192f32 F → C8192x8192f32 F → C8192x8192f32 F),
    unary main_v227 main_v228 (Host.exp : C8192x8192f32 F → C8192x8192f32 F),
    nullary main_cst_71 (constant S_ .f32 0x00000000#32),
    binary main_v228 main_cst_71 main_v229 ((fun x v => Host.reduceAdd x v reducesTo_S8192x8192_S8192_d1 h_S_) : C8192x8192f32 F → C0f32 F → C8192f32 F),
    unary main_v229 main_v230 (broadcastInDim S8192x1 ![0] bcast_S8192_S8192x1_0 : C8192f32 F → C8192x1f32 F),
    unary main_v230 main_v231 (broadcastInDim S8192x8192 ![0, 1] bcast_S8192x1_S8192x8192_0_1 : C8192x1f32 F → C8192x8192f32 F),
    binary main_v228 main_v231 main_v232 (Host.divf : C8192x8192f32 F → C8192x8192f32 F → C8192x8192f32 F),
    TRef.nullary (TRef.of (T := ⟨S8192x8192, .i32⟩) main_call0_v0) (iotaInDim S8192x8192 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S8192x8192, .f32⟩) main_v232) (TRef.of (T := ⟨S8192x8192, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmax_f32_i32 x y u v reducesTo_S8192x8192_S8192_d1 h_S_ j).1),
    TRef.quaternary (TRef.of (T := ⟨S8192x8192, .f32⟩) main_v232) (TRef.of (T := ⟨S8192x8192, .i32⟩) main_call0_v0) (TRef.of (T := ⟨S_, .f32⟩) main_call0_cst) (TRef.of (T := ⟨S_, .i32⟩) main_call0_c) (TRef.of (T := ⟨S8192, .i32⟩) main_v233) (fun x y u v j => (Host.argReduce reducer_argmax_f32_i32 x y u v reducesTo_S8192x8192_S8192_d1 h_S_ j).2),
    TRef.unary (TRef.of (T := ⟨S8192, .i32⟩) main_v233) (TRef.of (T := ⟨S8192x1, .i32⟩) main_call1_v0) (broadcastInDim S8192x1 ![0] bcast_S8192_S8192x1_0),
    TRef.nullary (TRef.of (T := ⟨S1x8192, .i32⟩) main_call1_v1) (iotaInDim S1x8192 32 1),
    TRef.unary (TRef.of (T := ⟨S8192x1, .i32⟩) main_call1_v0) (TRef.of (T := ⟨S8192x8192, .i32⟩) main_call1_v2) (broadcastInDim S8192x8192 ![0, 1] bcast_S8192x1_S8192x8192_0_1),
    TRef.unary (TRef.of (T := ⟨S1x8192, .i32⟩) main_call1_v1) (TRef.of (T := ⟨S8192x8192, .i32⟩) main_call1_v3) (broadcastInDim S8192x8192 ![0, 1] bcast_S1x8192_S8192x8192_0_1),
    TRef.binary (TRef.of (T := ⟨S8192x8192, .i32⟩) main_call1_v2) (TRef.of (T := ⟨S8192x8192, .i32⟩) main_call1_v3) (TRef.of (T := ⟨S8192x8192, .i1⟩) main_call1_v4) (cmpi .eq),
    TRef.unary (TRef.of (T := ⟨S8192x8192, .i1⟩) main_call1_v4) (TRef.of (T := ⟨S8192x8192, .f32⟩) main_v234) (uitofp .f32),
    binary main_v234 main_v232 main_v235 (addf : C8192x8192f32 F → C8192x8192f32 F → C8192x8192f32 F),
    binary main_v235 main_v232 main_v236 (subf : C8192x8192f32 F → C8192x8192f32 F → C8192x8192f32 F),
    binary main_v236 main_arg1 main_v237 ((fun l r => Host.dotGeneral dot_S8192x8192_S8192x32_S8192x32_1_0_0_1_n_n none l r) : C8192x8192f32 F → C8192x32f32 F → C8192x32f32 F),
    binary main_v237 main_v0 main_v238 (subf : C8192x32f32 F → C8192x32f32 F → C8192x32f32 F),
    binary main_v238 main_v238 main_v239 (mulf : C8192x32f32 F → C8192x32f32 F → C8192x32f32 F),
    nullary main_cst_72 (constant S_ .f32 0x00000000#32),
    binary main_v239 main_cst_72 main_v240 ((fun x v => Host.reduceAdd x v reducesTo_S8192x32_S_d0_1 h_S_) : C8192x32f32 F → C0f32 F → C0f32 F),
    nullary main_cst_73 (constant S_ .f32 0x48800000#32),
    binary main_v240 main_cst_73 main_v241 (Host.divf : C0f32 F → C0f32 F → C0f32 F),
    binary main_v236 main_arg1 main_v242 ((fun l r => Host.dotGeneral dot_S8192x8192_S8192x32_S8192x32_1_0_0_1_n_n none l r) : C8192x8192f32 F → C8192x32f32 F → C8192x32f32 F),
    binary main_v0 main_v242 main_v243 (subf : C8192x32f32 F → C8192x32f32 F → C8192x32f32 F),
    binary main_v243 main_v243 main_v244 (mulf : C8192x32f32 F → C8192x32f32 F → C8192x32f32 F),
    nullary main_cst_74 (constant S_ .f32 0x00000000#32),
    binary main_v244 main_cst_74 main_v245 ((fun x v => Host.reduceAdd x v reducesTo_S8192x32_S_d0_1 h_S_) : C8192x32f32 F → C0f32 F → C0f32 F),
    nullary main_cst_75 (constant S_ .f32 0x48800000#32),
    binary main_v245 main_cst_75 main_v246 (Host.divf : C0f32 F → C0f32 F → C0f32 F),
    nullary main_cst_76 (constant S_ .f32 0x3E800000#32),
    binary main_cst_76 main_v246 main_v247 (mulf : C0f32 F → C0f32 F → C0f32 F),
    binary main_v241 main_v247 main_v248 (addf : C0f32 F → C0f32 F → C0f32 F) ]

/-- @main's 337 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part5_sub : (ops_part5 : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., binary_bufs_sub .., binary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩
set_option maxRecDepth 8192 in
theorem ops_part5_fresh : (ops_part5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]
theorem ops_fresh : ∀ op ∈ (ops : List (HloOp τ sig (Elt F))), op.fresh = ∅ := fun op h => by
    simp only [ops, List.mem_append] at h
    rcases h with h | h | h | h | h | h
    exacts [List.forall_iff_forall_mem.mp ops_part0_fresh op h, List.forall_iff_forall_mem.mp ops_part1_fresh op h, List.forall_iff_forall_mem.mp ops_part2_fresh op h, List.forall_iff_forall_mem.mp ops_part3_fresh op h, List.forall_iff_forall_mem.mp ops_part4_fresh op h, List.forall_iff_forall_mem.mp ops_part5_fresh op h]

end Cert.ReferenceIdeal.Value

end

end
-- ==== Proof.RefRun.lean ====
/- The reference run to its end: what every buffer that a later stretch reads holds (`res_…`, in program order, each
   from the ones before it), the contents after each stretch (`val0` … `val6`), and `run`, which states both results
   and the arguments when `main` is done. -/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- An operation that writes one buffer writes inside any list that has it. -/
theorem writes_mem {b : Ref sig .tc} {L : List (Ref sig .tc)} (h : b ∈ L) :
    ({Proc.devRef (τ := τ) .tc b} : Finset (DevRef τ sig)) ⊆ (L.map (Proc.devRef (τ := τ) .tc)).toFinset :=
  Finset.singleton_subset_iff.mpr (List.mem_toFinset.mpr (List.mem_map_of_mem h))

/-- The contents of the buffer `b`. -/
abbrev Of (F : FTy → Type) (b : Ref sig .tc) := (Proc.devRef .tc b : DevRef τ sig).ty.Contents (Elt F)

/-- What `main_v0` holds at the end, from the contents `V0` at launch. -/
def res_main_v0 (V0 : Valuation τ sig (Elt F)) : Of F main_v0 :=
  shapeCast _ (V0 (Proc.devRef .tc main_arg0)) shapeCasts_S8x1024x32_S8192x32

/-- What `main_v30` holds at the end, from the contents `V0` at launch. -/
def res_main_v30 (V0 : Valuation τ sig (Elt F)) : Of F main_v30 :=
  addi (addi (muli (iotaInDim S8192x8192 32 0) (broadcastInDim S8192x8192 ![] bcast_S_S8192x8192 (constantI S_ 32 8192#32))) (iotaInDim S8192x8192 32 1)) (broadcastInDim S8192x8192 ![] bcast_S_S8192x8192 (constantI S_ 32 2545468385#32))

/-- What `main_v31` holds at the end, from the contents `V0` at launch. -/
def res_main_v31 (V0 : Valuation τ sig (Elt F)) : Of F main_v31 :=
  addi (addi (broadcastInDim S8192x8192 ![] bcast_S_S8192x8192 (constantI S_ 32 0#32)) (broadcastInDim S8192x8192 ![] bcast_S_S8192x8192 (constantI S_ 32 2247515013#32))) (res_main_v30 V0)

/-- What `main_v37` holds at the end, from the contents `V0` at launch. -/
def res_main_v37 (V0 : Valuation τ sig (Elt F)) : Of F main_v37 :=
  xori (ori (Host.shli (res_main_v30 V0) (broadcastInDim S8192x8192 ![] bcast_S_S8192x8192 (constantI S_ 32 13#32))) (Host.shrui (res_main_v30 V0) (broadcastInDim S8192x8192 ![] bcast_S_S8192x8192 (constantI S_ 32 19#32)))) (res_main_v31 V0)

/-- What `main_v38` holds at the end, from the contents `V0` at launch. -/
def res_main_v38 (V0 : Valuation τ sig (Elt F)) : Of F main_v38 :=
  addi (res_main_v31 V0) (res_main_v37 V0)

/-- What `main_v44` holds at the end, from the contents `V0` at launch. -/
def res_main_v44 (V0 : Valuation τ sig (Elt F)) : Of F main_v44 :=
  xori (ori (Host.shli (res_main_v37 V0) (broadcastInDim S8192x8192 ![] bcast_S_S8192x8192 (constantI S_ 32 15#32))) (Host.shrui (res_main_v37 V0) (broadcastInDim S8192x8192 ![] bcast_S_S8192x8192 (constantI S_ 32 17#32)))) (res_main_v38 V0)

/-- What `main_v45` holds at the end, from the contents `V0` at launch. -/
def res_main_v45 (V0 : Valuation τ sig (Elt F)) : Of F main_v45 :=
  addi (res_main_v38 V0) (res_main_v44 V0)

/-- What `main_v51` holds at the end, from the contents `V0` at launch. -/
def res_main_v51 (V0 : Valuation τ sig (Elt F)) : Of F main_v51 :=
  xori (ori (Host.shli (res_main_v44 V0) (broadcastInDim S8192x8192 ![] bcast_S_S8192x8192 (constantI S_ 32 26#32))) (Host.shrui (res_main_v44 V0) (broadcastInDim S8192x8192 ![] bcast_S_S8192x8192 (constantI S_ 32 6#32)))) (res_main_v45 V0)

/-- What `main_v52` holds at the end, from the contents `V0` at launch. -/
def res_main_v52 (V0 : Valuation τ sig (Elt F)) : Of F main_v52 :=
  addi (res_main_v45 V0) (res_main_v51 V0)

/-- What `main_v64` holds at the end, from the contents `V0` at launch. -/
def res_main_v64 (V0 : Valuation τ sig (Elt F)) : Of F main_v64 :=
  addi (addi (xori (ori (Host.shli (res_main_v51 V0) (broadcastInDim S8192x8192 ![] bcast_S_S8192x8192 (constantI S_ 32 6#32))) (Host.shrui (res_main_v51 V0) (broadcastInDim S8192x8192 ![] bcast_S_S8192x8192 (constantI S_ 32 26#32)))) (res_main_v52 V0)) (broadcastInDim S8192x8192 ![] bcast_S_S8192x8192 (constantI S_ 32 161448894#32))) (broadcastInDim S8192x8192 ![] bcast_S_S8192x8192 (constantI S_ 32 1#32))

/-- What `main_v65` holds at the end, from the contents `V0` at launch. -/
def res_main_v65 (V0 : Valuation τ sig (Elt F)) : Of F main_v65 :=
  addi (addi (res_main_v52 V0) (broadcastInDim S8192x8192 ![] bcast_S_S8192x8192 (constantI S_ 32 2545468385#32))) (res_main_v64 V0)

/-- What `main_v71` holds at the end, from the contents `V0` at launch. -/
def res_main_v71 (V0 : Valuation τ sig (Elt F)) : Of F main_v71 :=
  xori (ori (Host.shli (res_main_v64 V0) (broadcastInDim S8192x8192 ![] bcast_S_S8192x8192 (constantI S_ 32 17#32))) (Host.shrui (res_main_v64 V0) (broadcastInDim S8192x8192 ![] bcast_S_S8192x8192 (constantI S_ 32 15#32)))) (res_main_v65 V0)

/-- What `main_v72` holds at the end, from the contents `V0` at launch. -/
def res_main_v72 (V0 : Valuation τ sig (Elt F)) : Of F main_v72 :=
  addi (res_main_v65 V0) (res_main_v71 V0)

/-- What `main_v78` holds at the end, from the contents `V0` at launch. -/
def res_main_v78 (V0 : Valuation τ sig (Elt F)) : Of F main_v78 :=
  xori (ori (Host.shli (res_main_v71 V0) (broadcastInDim S8192x8192 ![] bcast_S_S8192x8192 (constantI S_ 32 29#32))) (Host.shrui (res_main_v71 V0) (broadcastInDim S8192x8192 ![] bcast_S_S8192x8192 (constantI S_ 32 3#32)))) (res_main_v72 V0)

/-- What `main_v79` holds at the end, from the contents `V0` at launch. -/
def res_main_v79 (V0 : Valuation τ sig (Elt F)) : Of F main_v79 :=
  addi (res_main_v72 V0) (res_main_v78 V0)

/-- What `main_v85` holds at the end, from the contents `V0` at launch. -/
def res_main_v85 (V0 : Valuation τ sig (Elt F)) : Of F main_v85 :=
  xori (ori (Host.shli (res_main_v78 V0) (broadcastInDim S8192x8192 ![] bcast_S_S8192x8192 (constantI S_ 32 16#32))) (Host.shrui (res_main_v78 V0) (broadcastInDim S8192x8192 ![] bcast_S_S8192x8192 (constantI S_ 32 16#32)))) (res_main_v79 V0)

/-- What `main_v86` holds at the end, from the contents `V0` at launch. -/
def res_main_v86 (V0 : Valuation τ sig (Elt F)) : Of F main_v86 :=
  addi (res_main_v79 V0) (res_main_v85 V0)

/-- What `main_v98` holds at the end, from the contents `V0` at launch. -/
def res_main_v98 (V0 : Valuation τ sig (Elt F)) : Of F main_v98 :=
  addi (addi (xori (ori (Host.shli (res_main_v85 V0) (broadcastInDim S8192x8192 ![] bcast_S_S8192x8192 (constantI S_ 32 24#32))) (Host.shrui (res_main_v85 V0) (broadcastInDim S8192x8192 ![] bcast_S_S8192x8192 (constantI S_ 32 8#32)))) (res_main_v86 V0)) (broadcastInDim S8192x8192 ![] bcast_S_S8192x8192 (constantI S_ 32 2247515013#32))) (broadcastInDim S8192x8192 ![] bcast_S_S8192x8192 (constantI S_ 32 2#32))

/-- What `main_v99` holds at the end, from the contents `V0` at launch. -/
def res_main_v99 (V0 : Valuation τ sig (Elt F)) : Of F main_v99 :=
  addi (addi (res_main_v86 V0) (broadcastInDim S8192x8192 ![] bcast_S_S8192x8192 (constantI S_ 32 161448894#32))) (res_main_v98 V0)

/-- What `main_v105` holds at the end, from the contents `V0` at launch. -/
def res_main_v105 (V0 : Valuation τ sig (Elt F)) : Of F main_v105 :=
  xori (ori (Host.shli (res_main_v98 V0) (broadcastInDim S8192x8192 ![] bcast_S_S8192x8192 (constantI S_ 32 13#32))) (Host.shrui (res_main_v98 V0) (broadcastInDim S8192x8192 ![] bcast_S_S8192x8192 (constantI S_ 32 19#32)))) (res_main_v99 V0)

/-- What `main_v106` holds at the end, from the contents `V0` at launch. -/
def res_main_v106 (V0 : Valuation τ sig (Elt F)) : Of F main_v106 :=
  addi (res_main_v99 V0) (res_main_v105 V0)

/-- What `main_v112` holds at the end, from the contents `V0` at launch. -/
def res_main_v112 (V0 : Valuation τ sig (Elt F)) : Of F main_v112 :=
  xori (ori (Host.shli (res_main_v105 V0) (broadcastInDim S8192x8192 ![] bcast_S_S8192x8192 (constantI S_ 32 15#32))) (Host.shrui (res_main_v105 V0) (broadcastInDim S8192x8192 ![] bcast_S_S8192x8192 (constantI S_ 32 17#32)))) (res_main_v106 V0)

/-- What `main_v113` holds at the end, from the contents `V0` at launch. -/
def res_main_v113 (V0 : Valuation τ sig (Elt F)) : Of F main_v113 :=
  addi (res_main_v106 V0) (res_main_v112 V0)

/-- What `main_v119` holds at the end, from the contents `V0` at launch. -/
def res_main_v119 (V0 : Valuation τ sig (Elt F)) : Of F main_v119 :=
  xori (ori (Host.shli (res_main_v112 V0) (broadcastInDim S8192x8192 ![] bcast_S_S8192x8192 (constantI S_ 32 26#32))) (Host.shrui (res_main_v112 V0) (broadcastInDim S8192x8192 ![] bcast_S_S8192x8192 (constantI S_ 32 6#32)))) (res_main_v113 V0)

/-- What `main_v120` holds at the end, from the contents `V0` at launch. -/
def res_main_v120 (V0 : Valuation τ sig (Elt F)) : Of F main_v120 :=
  addi (res_main_v113 V0) (res_main_v119 V0)

/-- What `main_v132` holds at the end, from the contents `V0` at launch. -/
def res_main_v132 (V0 : Valuation τ sig (Elt F)) : Of F main_v132 :=
  addi (addi (xori (ori (Host.shli (res_main_v119 V0) (broadcastInDim S8192x8192 ![] bcast_S_S8192x8192 (constantI S_ 32 6#32))) (Host.shrui (res_main_v119 V0) (broadcastInDim S8192x8192 ![] bcast_S_S8192x8192 (constantI S_ 32 26#32)))) (res_main_v120 V0)) (broadcastInDim S8192x8192 ![] bcast_S_S8192x8192 (constantI S_ 32 2545468385#32))) (broadcastInDim S8192x8192 ![] bcast_S_S8192x8192 (constantI S_ 32 3#32))

/-- What `main_v133` holds at the end, from the contents `V0` at launch. -/
def res_main_v133 (V0 : Valuation τ sig (Elt F)) : Of F main_v133 :=
  addi (addi (res_main_v120 V0) (broadcastInDim S8192x8192 ![] bcast_S_S8192x8192 (constantI S_ 32 2247515013#32))) (res_main_v132 V0)

/-- What `main_v139` holds at the end, from the contents `V0` at launch. -/
def res_main_v139 (V0 : Valuation τ sig (Elt F)) : Of F main_v139 :=
  xori (ori (Host.shli (res_main_v132 V0) (broadcastInDim S8192x8192 ![] bcast_S_S8192x8192 (constantI S_ 32 17#32))) (Host.shrui (res_main_v132 V0) (broadcastInDim S8192x8192 ![] bcast_S_S8192x8192 (constantI S_ 32 15#32)))) (res_main_v133 V0)

/-- What `main_v140` holds at the end, from the contents `V0` at launch. -/
def res_main_v140 (V0 : Valuation τ sig (Elt F)) : Of F main_v140 :=
  addi (res_main_v133 V0) (res_main_v139 V0)

/-- What `main_v146` holds at the end, from the contents `V0` at launch. -/
def res_main_v146 (V0 : Valuation τ sig (Elt F)) : Of F main_v146 :=
  xori (ori (Host.shli (res_main_v139 V0) (broadcastInDim S8192x8192 ![] bcast_S_S8192x8192 (constantI S_ 32 29#32))) (Host.shrui (res_main_v139 V0) (broadcastInDim S8192x8192 ![] bcast_S_S8192x8192 (constantI S_ 32 3#32)))) (res_main_v140 V0)

/-- What `main_v147` holds at the end, from the contents `V0` at launch. -/
def res_main_v147 (V0 : Valuation τ sig (Elt F)) : Of F main_v147 :=
  addi (res_main_v140 V0) (res_main_v146 V0)

/-- What `main_v153` holds at the end, from the contents `V0` at launch. -/
def res_main_v153 (V0 : Valuation τ sig (Elt F)) : Of F main_v153 :=
  xori (ori (Host.shli (res_main_v146 V0) (broadcastInDim S8192x8192 ![] bcast_S_S8192x8192 (constantI S_ 32 16#32))) (Host.shrui (res_main_v146 V0) (broadcastInDim S8192x8192 ![] bcast_S_S8192x8192 (constantI S_ 32 16#32)))) (res_main_v147 V0)

/-- What `main_v154` holds at the end, from the contents `V0` at launch. -/
def res_main_v154 (V0 : Valuation τ sig (Elt F)) : Of F main_v154 :=
  addi (res_main_v147 V0) (res_main_v153 V0)

/-- What `main_v166` holds at the end, from the contents `V0` at launch. -/
def res_main_v166 (V0 : Valuation τ sig (Elt F)) : Of F main_v166 :=
  addi (addi (xori (ori (Host.shli (res_main_v153 V0) (broadcastInDim S8192x8192 ![] bcast_S_S8192x8192 (constantI S_ 32 24#32))) (Host.shrui (res_main_v153 V0) (broadcastInDim S8192x8192 ![] bcast_S_S8192x8192 (constantI S_ 32 8#32)))) (res_main_v154 V0)) (broadcastInDim S8192x8192 ![] bcast_S_S8192x8192 (constantI S_ 32 161448894#32))) (broadcastInDim S8192x8192 ![] bcast_S_S8192x8192 (constantI S_ 32 4#32))

/-- What `main_v167` holds at the end, from the contents `V0` at launch. -/
def res_main_v167 (V0 : Valuation τ sig (Elt F)) : Of F main_v167 :=
  addi (addi (res_main_v154 V0) (broadcastInDim S8192x8192 ![] bcast_S_S8192x8192 (constantI S_ 32 2545468385#32))) (res_main_v166 V0)

/-- What `main_v173` holds at the end, from the contents `V0` at launch. -/
def res_main_v173 (V0 : Valuation τ sig (Elt F)) : Of F main_v173 :=
  xori (ori (Host.shli (res_main_v166 V0) (broadcastInDim S8192x8192 ![] bcast_S_S8192x8192 (constantI S_ 32 13#32))) (Host.shrui (res_main_v166 V0) (broadcastInDim S8192x8192 ![] bcast_S_S8192x8192 (constantI S_ 32 19#32)))) (res_main_v167 V0)

/-- What `main_v174` holds at the end, from the contents `V0` at launch. -/
def res_main_v174 (V0 : Valuation τ sig (Elt F)) : Of F main_v174 :=
  addi (res_main_v167 V0) (res_main_v173 V0)

/-- What `main_v180` holds at the end, from the contents `V0` at launch. -/
def res_main_v180 (V0 : Valuation τ sig (Elt F)) : Of F main_v180 :=
  xori (ori (Host.shli (res_main_v173 V0) (broadcastInDim S8192x8192 ![] bcast_S_S8192x8192 (constantI S_ 32 15#32))) (Host.shrui (res_main_v173 V0) (broadcastInDim S8192x8192 ![] bcast_S_S8192x8192 (constantI S_ 32 17#32)))) (res_main_v174 V0)

/-- What `main_v181` holds at the end, from the contents `V0` at launch. -/
def res_main_v181 (V0 : Valuation τ sig (Elt F)) : Of F main_v181 :=
  addi (res_main_v174 V0) (res_main_v180 V0)

/-- What `main_v187` holds at the end, from the contents `V0` at launch. -/
def res_main_v187 (V0 : Valuation τ sig (Elt F)) : Of F main_v187 :=
  xori (ori (Host.shli (res_main_v180 V0) (broadcastInDim S8192x8192 ![] bcast_S_S8192x8192 (constantI S_ 32 26#32))) (Host.shrui (res_main_v180 V0) (broadcastInDim S8192x8192 ![] bcast_S_S8192x8192 (constantI S_ 32 6#32)))) (res_main_v181 V0)

/-- What `main_v188` holds at the end, from the contents `V0` at launch. -/
def res_main_v188 (V0 : Valuation τ sig (Elt F)) : Of F main_v188 :=
  addi (res_main_v181 V0) (res_main_v187 V0)

/-- What `main_v221` holds at the end, from the contents `V0` at launch. -/
def res_main_v221 (V0 : Valuation τ sig (Elt F)) : Of F main_v221 :=
  Host.divf (addf (Host.divf (Host.negf (Host.sqrt (maximumf (subf (addf (broadcastInDim S8192x8192 ![0, 1] bcast_S8192x1_S8192x8192_0_1 (broadcastInDim S8192x1 ![0] bcast_S8192_S8192x1_0 (Host.reduceAdd (mulf (res_main_v0 V0) (res_main_v0 V0)) (constant S_ .f32 0x00000000#32) reducesTo_S8192x32_S8192_d1 h_S_))) (broadcastInDim S8192x8192 ![0, 1] bcast_S1x8192_S8192x8192_0_1 (broadcastInDim S1x8192 ![1] bcast_S8192_S1x8192_1 (Host.reduceAdd (mulf (V0 (Proc.devRef .tc main_arg1)) (V0 (Proc.devRef .tc main_arg1))) (constant S_ .f32 0x00000000#32) reducesTo_S8192x32_S8192_d1 h_S_)))) (mulf (broadcastInDim S8192x8192 ![] bcast_S_S8192x8192 (constant S_ .f32 0x40000000#32)) (Host.dotGeneral dot_S8192x32_S32x8192_S8192x8192_1_0_0_1_n_n none (res_main_v0 V0) (transpose S32x8192 [1, 0] (V0 (Proc.devRef .tc main_arg1)) transposes_S8192x32_S32x8192_1_0)))) (broadcastInDim S8192x8192 ![] bcast_S_S8192x8192 (constant S_ .f32 0x00000000#32))))) (broadcastInDim S8192x8192 ![] bcast_S_S8192x8192 (constant S_ .f32 0x3F800000#32))) (Host.negf (Host.log (Host.negf (Host.log (maximumf (broadcastInDim S8192x8192 ![] bcast_S_S8192x8192 (constant S_ .f32 0x3089705F#32)) (addf (mulf (subf (bitcastToFloat (F := F) .f32 (ori (Host.shrui (xori (addi (res_main_v188 V0) (broadcastInDim S8192x8192 ![] bcast_S_S8192x8192 (constantI S_ 32 161448894#32))) (addi (addi (xori (ori (Host.shli (res_main_v187 V0) (broadcastInDim S8192x8192 ![] bcast_S_S8192x8192 (constantI S_ 32 6#32))) (Host.shrui (res_main_v187 V0) (broadcastInDim S8192x8192 ![] bcast_S_S8192x8192 (constantI S_ 32 26#32)))) (res_main_v188 V0)) (broadcastInDim S8192x8192 ![] bcast_S_S8192x8192 (constantI S_ 32 2247515013#32))) (broadcastInDim S8192x8192 ![] bcast_S_S8192x8192 (constantI S_ 32 5#32)))) (broadcastInDim S8192x8192 ![] bcast_S_S8192x8192 (constantI S_ 32 9#32))) (broadcastInDim S8192x8192 ![] bcast_S_S8192x8192 (constantI S_ 32 1065353216#32)))) (broadcastInDim S8192x8192 ![] bcast_S_S8192x8192 (constant S_ .f32 0x3F800000#32))) (broadcastInDim S8192x8192 ![] bcast_S_S8192x8192 (constant S_ .f32 0x3F800000#32))) (broadcastInDim S8192x8192 ![] bcast_S_S8192x8192 (constant S_ .f32 0x3089705F#32))))))))) (broadcastInDim S8192x8192 ![] bcast_S_S8192x8192 (constant S_ .f32 0x3F800000#32))

/-- What `main_v228` holds at the end, from the contents `V0` at launch. -/
def res_main_v228 (V0 : Valuation τ sig (Elt F)) : Of F main_v228 :=
  Host.exp (subf (res_main_v221 V0) (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf (res_main_v221 V0) (constant S_ .f32 0xFF800000#32) reducesTo_S8192x8192_S8192_d1 h_S_)))))

/-- What `main_v232` holds at the end, from the contents `V0` at launch. -/
def res_main_v232 (V0 : Valuation τ sig (Elt F)) : Of F main_v232 :=
  Host.divf (res_main_v228 V0) (broadcastInDim S8192x8192 ![0, 1] bcast_S8192x1_S8192x8192_0_1 (broadcastInDim S8192x1 ![0] bcast_S8192_S8192x1_0 (Host.reduceAdd (res_main_v228 V0) (constant S_ .f32 0x00000000#32) reducesTo_S8192x8192_S8192_d1 h_S_)))

/-- What `main_call0_v0` holds at the end, from the contents `V0` at launch. -/
def res_main_call0_v0 (V0 : Valuation τ sig (Elt F)) : Of F main_call0_v0 :=
  iotaInDim S8192x8192 32 1

/-- What `main_call0_cst` holds at the end, from the contents `V0` at launch. -/
def res_main_call0_cst (V0 : Valuation τ sig (Elt F)) : Of F main_call0_cst :=
  constant S_ .f32 0xFF800000#32

/-- What `main_call0_c` holds at the end, from the contents `V0` at launch. -/
def res_main_call0_c (V0 : Valuation τ sig (Elt F)) : Of F main_call0_c :=
  constantI S_ 32 0#32

/-- What `main_v236` holds at the end, from the contents `V0` at launch. -/
def res_main_v236 (V0 : Valuation τ sig (Elt F)) : Of F main_v236 :=
  subf (addf (uitofp .f32 (cmpi .eq (broadcastInDim S8192x8192 ![0, 1] bcast_S8192x1_S8192x8192_0_1 (broadcastInDim S8192x1 ![0] bcast_S8192_S8192x1_0 ((fun j => (Host.argReduce reducer_argmax_f32_i32 (res_main_v232 V0) (res_main_call0_v0 V0) (res_main_call0_cst V0) (res_main_call0_c V0) reducesTo_S8192x8192_S8192_d1 h_S_ j).2)))) (broadcastInDim S8192x8192 ![0, 1] bcast_S1x8192_S8192x8192_0_1 (iotaInDim S1x8192 32 1)))) (res_main_v232 V0)) (res_main_v232 V0)

/-- What `main_v238` holds at the end, from the contents `V0` at launch. -/
def res_main_v238 (V0 : Valuation τ sig (Elt F)) : Of F main_v238 :=
  subf (Host.dotGeneral dot_S8192x8192_S8192x32_S8192x32_1_0_0_1_n_n none (res_main_v236 V0) (V0 (Proc.devRef .tc main_arg1))) (res_main_v0 V0)

/-- What `main_v243` holds at the end, from the contents `V0` at launch. -/
def res_main_v243 (V0 : Valuation τ sig (Elt F)) : Of F main_v243 :=
  subf (res_main_v0 V0) (Host.dotGeneral dot_S8192x8192_S8192x32_S8192x32_1_0_0_1_n_n none (res_main_v236 V0) (V0 (Proc.devRef .tc main_arg1)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_cst, main_v2, main_v3, main_v4, main_cst_0, main_v5, main_v6, main_v7, main_v8, main_v9, main_v10, main_v11, main_cst_1, main_v12, main_v13, main_v14, main_cst_2, main_v15, main_v16, main_v17, main_v18, main_cst_3, main_v19, main_v20, main_v21, main_c, main_v22, main_v23, main_v24, main_v25, main_c_4, main_v26, main_c_5, main_v27, main_v28, main_c_6, main_v29, main_v30, main_v31, main_c_7, main_v32, main_v33, main_c_8, main_v34, main_v35, main_v36, main_v37, main_v38, main_c_9, main_v39, main_v40, main_c_10, main_v41, main_v42, main_v43, main_v44, main_v45, main_c_11]
set_option maxRecDepth 8192 in
theorem ops_part0_writes : (ops_part0 : List (HloOp τ sig (Elt F))).Forall fun op => op.writes ⊆ (ops_part0_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
set_option maxRecDepth 8192 in
theorem val1_main_v0 (V0 : Valuation τ sig (Elt F)) : val1 V0 (no_index (Proc.devRef .tc main_v0)) = res_main_v0 V0 := by
  unfold val1
  simp only [ops_part0]
  after_results_simp
  simp only [val0_main_arg0] <;> rfl
set_option maxRecDepth 8192 in
theorem val1_main_v20 (V0 : Valuation τ sig (Elt F)) : val1 V0 (no_index (Proc.devRef .tc main_v20)) = Host.divf (Host.negf (Host.sqrt (maximumf (subf (addf (broadcastInDim S8192x8192 ![0, 1] bcast_S8192x1_S8192x8192_0_1 (broadcastInDim S8192x1 ![0] bcast_S8192_S8192x1_0 (Host.reduceAdd (mulf (res_main_v0 V0) (res_main_v0 V0)) (constant S_ .f32 0x00000000#32) reducesTo_S8192x32_S8192_d1 h_S_))) (broadcastInDim S8192x8192 ![0, 1] bcast_S1x8192_S8192x8192_0_1 (broadcastInDim S1x8192 ![1] bcast_S8192_S1x8192_1 (Host.reduceAdd (mulf (V0 (Proc.devRef .tc main_arg1)) (V0 (Proc.devRef .tc main_arg1))) (constant S_ .f32 0x00000000#32) reducesTo_S8192x32_S8192_d1 h_S_)))) (mulf (broadcastInDim S8192x8192 ![] bcast_S_S8192x8192 (constant S_ .f32 0x40000000#32)) (Host.dotGeneral dot_S8192x32_S32x8192_S8192x8192_1_0_0_1_n_n none (res_main_v0 V0) (transpose S32x8192 [1, 0] (V0 (Proc.devRef .tc main_arg1)) transposes_S8192x32_S32x8192_1_0)))) (broadcastInDim S8192x8192 ![] bcast_S_S8192x8192 (constant S_ .f32 0x00000000#32))))) (broadcastInDim S8192x8192 ![] bcast_S_S8192x8192 (constant S_ .f32 0x3F800000#32)) := by
  unfold val1
  simp only [ops_part0]
  after_results_simp
  simp only [val0_main_arg1, val0_main_arg0] <;> rfl
set_option maxRecDepth 8192 in
theorem val1_main_v44 (V0 : Valuation τ sig (Elt F)) : val1 V0 (no_index (Proc.devRef .tc main_v44)) = res_main_v44 V0 := by
  unfold val1
  simp only [ops_part0]
  after_results_simp
  all_goals rfl
set_option maxRecDepth 8192 in
theorem val1_main_v45 (V0 : Valuation τ sig (Elt F)) : val1 V0 (no_index (Proc.devRef .tc main_v45)) = res_main_v45 V0 := by
  unfold val1
  simp only [ops_part0]
  after_results_simp
  all_goals rfl
set_option maxRecDepth 8192 in
theorem val1_main_c_11 (V0 : Valuation τ sig (Elt F)) : val1 V0 (no_index (Proc.devRef .tc main_c_11)) = constantI S_ 32 26#32 := by
  unfold val1
  simp only [ops_part0]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v46, main_v47, main_c_12, main_v48, main_v49, main_v50, main_v51, main_v52, main_c_13, main_v53, main_v54, main_c_14, main_v55, main_v56, main_v57, main_v58, main_c_15, main_v59, main_v60, main_c_16, main_v61, main_v62, main_c_17, main_v63, main_v64, main_v65, main_c_18, main_v66, main_v67, main_c_19, main_v68, main_v69, main_v70, main_v71, main_v72, main_c_20, main_v73, main_v74, main_c_21, main_v75, main_v76, main_v77, main_v78, main_v79, main_c_22, main_v80, main_v81, main_c_23, main_v82, main_v83, main_v84, main_v85, main_v86, main_c_24, main_v87, main_v88, main_c_25, main_v89, main_v90, main_v91]
set_option maxRecDepth 8192 in
theorem ops_part1_writes : (ops_part1 : List (HloOp τ sig (Elt F))).Forall fun op => op.writes ⊆ (ops_part1_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_v0 (V0 : Valuation τ sig (Elt F)) : val2 V0 (no_index (Proc.devRef .tc main_v0)) = res_main_v0 V0 :=
  (val2_keep V0 main_v0 (by decide)).trans (val1_main_v0 V0)
theorem val2_main_v20 (V0 : Valuation τ sig (Elt F)) : val2 V0 (no_index (Proc.devRef .tc main_v20)) = Host.divf (Host.negf (Host.sqrt (maximumf (subf (addf (broadcastInDim S8192x8192 ![0, 1] bcast_S8192x1_S8192x8192_0_1 (broadcastInDim S8192x1 ![0] bcast_S8192_S8192x1_0 (Host.reduceAdd (mulf (res_main_v0 V0) (res_main_v0 V0)) (constant S_ .f32 0x00000000#32) reducesTo_S8192x32_S8192_d1 h_S_))) (broadcastInDim S8192x8192 ![0, 1] bcast_S1x8192_S8192x8192_0_1 (broadcastInDim S1x8192 ![1] bcast_S8192_S1x8192_1 (Host.reduceAdd (mulf (V0 (Proc.devRef .tc main_arg1)) (V0 (Proc.devRef .tc main_arg1))) (constant S_ .f32 0x00000000#32) reducesTo_S8192x32_S8192_d1 h_S_)))) (mulf (broadcastInDim S8192x8192 ![] bcast_S_S8192x8192 (constant S_ .f32 0x40000000#32)) (Host.dotGeneral dot_S8192x32_S32x8192_S8192x8192_1_0_0_1_n_n none (res_main_v0 V0) (transpose S32x8192 [1, 0] (V0 (Proc.devRef .tc main_arg1)) transposes_S8192x32_S32x8192_1_0)))) (broadcastInDim S8192x8192 ![] bcast_S_S8192x8192 (constant S_ .f32 0x00000000#32))))) (broadcastInDim S8192x8192 ![] bcast_S_S8192x8192 (constant S_ .f32 0x3F800000#32)) :=
  (val2_keep V0 main_v20 (by decide)).trans (val1_main_v20 V0)
set_option maxRecDepth 8192 in
theorem val2_main_v86 (V0 : Valuation τ sig (Elt F)) : val2 V0 (no_index (Proc.devRef .tc main_v86)) = res_main_v86 V0 := by
  unfold val2
  simp only [ops_part1]
  after_results_simp
  simp only [val1_main_v44, val1_main_c_11, val1_main_v45] <;> rfl
set_option maxRecDepth 8192 in
theorem val2_main_v91 (V0 : Valuation τ sig (Elt F)) : val2 V0 (no_index (Proc.devRef .tc main_v91)) = ori (Host.shli (res_main_v85 V0) (broadcastInDim S8192x8192 ![] bcast_S_S8192x8192 (constantI S_ 32 24#32))) (Host.shrui (res_main_v85 V0) (broadcastInDim S8192x8192 ![] bcast_S_S8192x8192 (constantI S_ 32 8#32))) := by
  unfold val2
  simp only [ops_part1]
  after_results_simp
  simp only [val1_main_v44, val1_main_c_11, val1_main_v45] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v92, main_c_26, main_v93, main_v94, main_c_27, main_v95, main_v96, main_c_28, main_v97, main_v98, main_v99, main_c_29, main_v100, main_v101, main_c_30, main_v102, main_v103, main_v104, main_v105, main_v106, main_c_31, main_v107, main_v108, main_c_32, main_v109, main_v110, main_v111, main_v112, main_v113, main_c_33, main_v114, main_v115, main_c_34, main_v116, main_v117, main_v118, main_v119, main_v120, main_c_35, main_v121, main_v122, main_c_36, main_v123, main_v124, main_v125, main_v126, main_c_37, main_v127, main_v128, main_c_38, main_v129, main_v130, main_c_39, main_v131, main_v132, main_v133, main_c_40, main_v134, main_v135, main_c_41]
set_option maxRecDepth 8192 in
theorem ops_part2_writes : (ops_part2 : List (HloOp τ sig (Elt F))).Forall fun op => op.writes ⊆ (ops_part2_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_v0 (V0 : Valuation τ sig (Elt F)) : val3 V0 (no_index (Proc.devRef .tc main_v0)) = res_main_v0 V0 :=
  (val3_keep V0 main_v0 (by decide)).trans (val2_main_v0 V0)
theorem val3_main_v20 (V0 : Valuation τ sig (Elt F)) : val3 V0 (no_index (Proc.devRef .tc main_v20)) = Host.divf (Host.negf (Host.sqrt (maximumf (subf (addf (broadcastInDim S8192x8192 ![0, 1] bcast_S8192x1_S8192x8192_0_1 (broadcastInDim S8192x1 ![0] bcast_S8192_S8192x1_0 (Host.reduceAdd (mulf (res_main_v0 V0) (res_main_v0 V0)) (constant S_ .f32 0x00000000#32) reducesTo_S8192x32_S8192_d1 h_S_))) (broadcastInDim S8192x8192 ![0, 1] bcast_S1x8192_S8192x8192_0_1 (broadcastInDim S1x8192 ![1] bcast_S8192_S1x8192_1 (Host.reduceAdd (mulf (V0 (Proc.devRef .tc main_arg1)) (V0 (Proc.devRef .tc main_arg1))) (constant S_ .f32 0x00000000#32) reducesTo_S8192x32_S8192_d1 h_S_)))) (mulf (broadcastInDim S8192x8192 ![] bcast_S_S8192x8192 (constant S_ .f32 0x40000000#32)) (Host.dotGeneral dot_S8192x32_S32x8192_S8192x8192_1_0_0_1_n_n none (res_main_v0 V0) (transpose S32x8192 [1, 0] (V0 (Proc.devRef .tc main_arg1)) transposes_S8192x32_S32x8192_1_0)))) (broadcastInDim S8192x8192 ![] bcast_S_S8192x8192 (constant S_ .f32 0x00000000#32))))) (broadcastInDim S8192x8192 ![] bcast_S_S8192x8192 (constant S_ .f32 0x3F800000#32)) :=
  (val3_keep V0 main_v20 (by decide)).trans (val2_main_v20 V0)
set_option maxRecDepth 8192 in
theorem val3_main_v132 (V0 : Valuation τ sig (Elt F)) : val3 V0 (no_index (Proc.devRef .tc main_v132)) = res_main_v132 V0 := by
  unfold val3
  simp only [ops_part2]
  after_results_simp
  simp only [val2_main_v86, val2_main_v91] <;> rfl
set_option maxRecDepth 8192 in
theorem val3_main_v133 (V0 : Valuation τ sig (Elt F)) : val3 V0 (no_index (Proc.devRef .tc main_v133)) = res_main_v133 V0 := by
  unfold val3
  simp only [ops_part2]
  after_results_simp
  simp only [val2_main_v86, val2_main_v91] <;> rfl
set_option maxRecDepth 8192 in
theorem val3_main_v135 (V0 : Valuation τ sig (Elt F)) : val3 V0 (no_index (Proc.devRef .tc main_v135)) = Host.shli (res_main_v132 V0) (broadcastInDim S8192x8192 ![] bcast_S_S8192x8192 (constantI S_ 32 17#32)) := by
  unfold val3
  simp only [ops_part2]
  after_results_simp
  simp only [val2_main_v86, val2_main_v91] <;> rfl
set_option maxRecDepth 8192 in
theorem val3_main_c_41 (V0 : Valuation τ sig (Elt F)) : val3 V0 (no_index (Proc.devRef .tc main_c_41)) = constantI S_ 32 15#32 := by
  unfold val3
  simp only [ops_part2]
  after_results_simp
  all_goals rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v136, main_v137, main_v138, main_v139, main_v140, main_c_42, main_v141, main_v142, main_c_43, main_v143, main_v144, main_v145, main_v146, main_v147, main_c_44, main_v148, main_v149, main_c_45, main_v150, main_v151, main_v152, main_v153, main_v154, main_c_46, main_v155, main_v156, main_c_47, main_v157, main_v158, main_v159, main_v160, main_c_48, main_v161, main_v162, main_c_49, main_v163, main_v164, main_c_50, main_v165, main_v166, main_v167, main_c_51, main_v168, main_v169, main_c_52, main_v170, main_v171, main_v172, main_v173, main_v174, main_c_53, main_v175, main_v176, main_c_54, main_v177, main_v178, main_v179, main_v180, main_v181, main_c_55]
set_option maxRecDepth 8192 in
theorem ops_part3_writes : (ops_part3 : List (HloOp τ sig (Elt F))).Forall fun op => op.writes ⊆ (ops_part3_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_v0 (V0 : Valuation τ sig (Elt F)) : val4 V0 (no_index (Proc.devRef .tc main_v0)) = res_main_v0 V0 :=
  (val4_keep V0 main_v0 (by decide)).trans (val3_main_v0 V0)
theorem val4_main_v20 (V0 : Valuation τ sig (Elt F)) : val4 V0 (no_index (Proc.devRef .tc main_v20)) = Host.divf (Host.negf (Host.sqrt (maximumf (subf (addf (broadcastInDim S8192x8192 ![0, 1] bcast_S8192x1_S8192x8192_0_1 (broadcastInDim S8192x1 ![0] bcast_S8192_S8192x1_0 (Host.reduceAdd (mulf (res_main_v0 V0) (res_main_v0 V0)) (constant S_ .f32 0x00000000#32) reducesTo_S8192x32_S8192_d1 h_S_))) (broadcastInDim S8192x8192 ![0, 1] bcast_S1x8192_S8192x8192_0_1 (broadcastInDim S1x8192 ![1] bcast_S8192_S1x8192_1 (Host.reduceAdd (mulf (V0 (Proc.devRef .tc main_arg1)) (V0 (Proc.devRef .tc main_arg1))) (constant S_ .f32 0x00000000#32) reducesTo_S8192x32_S8192_d1 h_S_)))) (mulf (broadcastInDim S8192x8192 ![] bcast_S_S8192x8192 (constant S_ .f32 0x40000000#32)) (Host.dotGeneral dot_S8192x32_S32x8192_S8192x8192_1_0_0_1_n_n none (res_main_v0 V0) (transpose S32x8192 [1, 0] (V0 (Proc.devRef .tc main_arg1)) transposes_S8192x32_S32x8192_1_0)))) (broadcastInDim S8192x8192 ![] bcast_S_S8192x8192 (constant S_ .f32 0x00000000#32))))) (broadcastInDim S8192x8192 ![] bcast_S_S8192x8192 (constant S_ .f32 0x3F800000#32)) :=
  (val4_keep V0 main_v20 (by decide)).trans (val3_main_v20 V0)
set_option maxRecDepth 8192 in
theorem val4_main_v180 (V0 : Valuation τ sig (Elt F)) : val4 V0 (no_index (Proc.devRef .tc main_v180)) = res_main_v180 V0 := by
  unfold val4
  simp only [ops_part3]
  after_results_simp
  simp only [val3_main_c_41, val3_main_v132, val3_main_v135, val3_main_v133] <;> rfl
set_option maxRecDepth 8192 in
theorem val4_main_v181 (V0 : Valuation τ sig (Elt F)) : val4 V0 (no_index (Proc.devRef .tc main_v181)) = res_main_v181 V0 := by
  unfold val4
  simp only [ops_part3]
  after_results_simp
  simp only [val3_main_c_41, val3_main_v132, val3_main_v135, val3_main_v133] <;> rfl
set_option maxRecDepth 8192 in
theorem val4_main_c_55 (V0 : Valuation τ sig (Elt F)) : val4 V0 (no_index (Proc.devRef .tc main_c_55)) = constantI S_ 32 26#32 := by
  unfold val4
  simp only [ops_part3]
  after_results_simp
  all_goals rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v182, main_v183, main_c_56, main_v184, main_v185, main_v186, main_v187, main_v188, main_c_57, main_v189, main_v190, main_c_58, main_v191, main_v192, main_v193, main_v194, main_c_59, main_v195, main_v196, main_c_60, main_v197, main_v198, main_c_61, main_v199, main_v200, main_v201, main_c_62, main_v202, main_v203, main_c_63, main_v204, main_v205, main_v206, main_cst_64, main_v207, main_v208, main_cst_65, main_v209, main_v210, main_cst_66, main_v211, main_v212, main_cst_67, main_v213, main_v214, main_v215, main_v216, main_v217, main_v218, main_v219, main_cst_68, main_v220, main_v221, main_cst_69, main_v222, main_cst_70, main_v223, main_v224, main_v225, main_v226]
set_option maxRecDepth 8192 in
theorem ops_part4_writes : (ops_part4 : List (HloOp τ sig (Elt F))).Forall fun op => op.writes ⊆ (ops_part4_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_v0 (V0 : Valuation τ sig (Elt F)) : val5 V0 (no_index (Proc.devRef .tc main_v0)) = res_main_v0 V0 :=
  (val5_keep V0 main_v0 (by decide)).trans (val4_main_v0 V0)
set_option maxRecDepth 8192 in
theorem val5_main_v221 (V0 : Valuation τ sig (Elt F)) : val5 V0 (no_index (Proc.devRef .tc main_v221)) = res_main_v221 V0 := by
  unfold val5
  simp only [ops_part4]
  after_results_simp
  simp only [val4_main_v180, val4_main_c_55, val4_main_v181, val4_main_v20] <;> rfl
set_option maxRecDepth 8192 in
theorem val5_main_v226 (V0 : Valuation τ sig (Elt F)) : val5 V0 (no_index (Proc.devRef .tc main_v226)) = broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf (res_main_v221 V0) (constant S_ .f32 0xFF800000#32) reducesTo_S8192x8192_S8192_d1 h_S_))) := by
  unfold val5
  simp only [ops_part4]
  after_results_simp
  simp only [val4_main_v180, val4_main_c_55, val4_main_v181, val4_main_v20] <;> rfl

/-- The device's buffer contents after @main's first 6 windows. -/
def val6 (V0 : Valuation τ sig (Elt F)) : Valuation τ sig (Elt F) := after ops_part5 (val5 V0)
/-- The buffers that window `main_part5`'s operations write. -/
abbrev ops_part5_W : List (Ref sig .tc) := [main_v227, main_v228, main_cst_71, main_v229, main_v230, main_v231, main_v232, main_call0_v0, main_call0_cst, main_call0_c, main_call0_v1_0, main_v233, main_call1_v0, main_call1_v1, main_call1_v2, main_call1_v3, main_call1_v4, main_v234, main_v235, main_v236, main_v237, main_v238, main_v239, main_cst_72, main_v240, main_cst_73, main_v241, main_v242, main_v243, main_v244, main_cst_74, main_v245, main_cst_75, main_v246, main_cst_76, main_v247, main_v248]
set_option maxRecDepth 8192 in
theorem ops_part5_writes : (ops_part5 : List (HloOp τ sig (Elt F))).Forall fun op => op.writes ⊆ (ops_part5_W.map (Proc.devRef (τ := τ) .tc)).toFinset :=
  ⟨writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide), writes_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
set_option maxRecDepth 8192 in
theorem val6_main_v236 (V0 : Valuation τ sig (Elt F)) : val6 V0 (no_index (Proc.devRef .tc main_v236)) = res_main_v236 V0 := by
  unfold val6
  simp only [ops_part5, TRef.binary, TRef.nullary, TRef.quaternary, TRef.unary, TRef.toBuf, TRef.ofBuf, cast_eq]
  after_results_simp
  simp only [val5_main_v226, val5_main_v221] <;> rfl
set_option maxRecDepth 8192 in
theorem val6_main_v248 (V0 : Valuation τ sig (Elt F)) : val6 V0 (no_index (Proc.devRef .tc main_v248)) = addf (Host.divf (Host.reduceAdd (mulf (res_main_v238 V0) (res_main_v238 V0)) (constant S_ .f32 0x00000000#32) reducesTo_S8192x32_S_d0_1 h_S_) (constant S_ .f32 0x48800000#32)) (mulf (constant S_ .f32 0x3E800000#32) (Host.divf (Host.reduceAdd (mulf (res_main_v243 V0) (res_main_v243 V0)) (constant S_ .f32 0x00000000#32) reducesTo_S8192x32_S_d0_1 h_S_) (constant S_ .f32 0x48800000#32))) := by
  unfold val6
  simp only [ops_part5, TRef.binary, TRef.nullary, TRef.quaternary, TRef.unary, TRef.toBuf, TRef.ofBuf, cast_eq]
  after_results_simp
  simp only [val5_main_arg1, val5_main_v226, val5_main_v221, val5_main_v0] <;> rfl

theorem after_ops (V0 : Valuation τ sig (Elt F)) : after ops V0 = val6 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v236) = res_main_v236 (launchContents m c)
      ∧ r.2.mem ((c.tc : Thread nD τ).loc main_v248) = addf (Host.divf (Host.reduceAdd (mulf (res_main_v238 (launchContents m c)) (res_main_v238 (launchContents m c))) (constant S_ .f32 0x00000000#32) reducesTo_S8192x32_S_d0_1 h_S_) (constant S_ .f32 0x48800000#32)) (mulf (constant S_ .f32 0x3E800000#32) (Host.divf (Host.reduceAdd (mulf (res_main_v243 (launchContents m c)) (res_main_v243 (launchContents m c))) (constant S_ .f32 0x00000000#32) reducesTo_S8192x32_S_d0_1 h_S_) (constant S_ .f32 0x48800000#32)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v236).trans ((congrFun (after_ops (launchContents m c)) (Proc.devRef .tc main_v236)).trans (val6_main_v236 (launchContents m c))),
      (h c main_v248).trans ((congrFun (after_ops (launchContents m c)) (Proc.devRef .tc main_v248)).trans (val6_main_v248 (launchContents m c))),
      (h c main_arg0).trans ((congrFun (after_ops (launchContents m c)) (Proc.devRef .tc main_arg0)).trans (val6_main_arg0 (launchContents m c))),
      (h c main_arg1).trans ((congrFun (after_ops (launchContents m c)) (Proc.devRef .tc main_arg1)).trans (val6_main_arg1 (launchContents m c)))⟩)
    (run_seq scopedRefs_eq scopedSems_eq defs main (fun _ => ops) main_eq (fun _ => ops_sub) m ρ fun _ => ops_fresh)

end Cert.ReferenceIdeal.Value

end

end
-- ==== Proof.RefWords.lean ====
/- The random words the reference makes: its integer arrays at an index whose counter word is `p`, one round after the
   other. -/
module

public import proofs.«01_k».proof.Proof.RefRun
public import proofs.«01_k».proof.Proof.Words

@[expose] public section

namespace Cert.ReferenceIdeal.Value

open Cert.ReferenceIdeal Cert.ReferenceIdeal.Gen Cert.Words Idealize.ShloMosaic Idealize.SL.Sem Idealize.ShloMosaic.StableHlo

variable {F : FTy → Type} [FloatOps F]

/-- The counter word at an index: its position, the rows one after the other. -/
def word (j : S8192x8192.Idx) : BitVec 32 := BitVec.ofNat 32 (j 0).val * 8192#32 + BitVec.ofNat 32 (j 1).val

/-- The reference's random bits, the last two rounds' values given. -/
def lastBits (v187 v188 : IVec S8192x8192 32) : IVec S8192x8192 32 :=
  Host.shrui
    (xori (addi v188 (broadcastInDim S8192x8192 ![] bcast_S_S8192x8192 (constantI S_ 32 161448894#32)))
      (addi
        (addi
          (xori
            (ori (Host.shli v187 (broadcastInDim S8192x8192 ![] bcast_S_S8192x8192 (constantI S_ 32 6#32)))
              (Host.shrui v187 (broadcastInDim S8192x8192 ![] bcast_S_S8192x8192 (constantI S_ 32 26#32)))) v188)
          (broadcastInDim S8192x8192 ![] bcast_S_S8192x8192 (constantI S_ 32 2247515013#32)))
        (broadcastInDim S8192x8192 ![] bcast_S_S8192x8192 (constantI S_ 32 5#32))))
    (broadcastInDim S8192x8192 ![] bcast_S_S8192x8192 (constantI S_ 32 9#32))

section
variable {q : Pair} {b c : IVec S8192x8192 32} {j : S8192x8192.Idx} {r r' k k' l n : BitVec 32}

/-- A round of the reference, its amounts scalars broadcast. -/
theorem turn (hc : c j = q.1 + q.2) (hb : b j = q.2) (hr : r.toNat < 32) (hr' : r'.toNat < 32) :
    xori (ori (Host.shli b (broadcastInDim S8192x8192 ![] bcast_S_S8192x8192 (constantI S_ 32 r)))
      (Host.shrui b (broadcastInDim S8192x8192 ![] bcast_S_S8192x8192 (constantI S_ 32 r')))) c j = (mix r r' q).2 :=
  hostRound_at hc hb rfl rfl hr hr'

/-- A key step of the reference: the key word `l`, then the group's number `n`. -/
theorem key (hb : b j = q.2) (hk : l + n = k') :
    addi (addi b (broadcastInDim S8192x8192 ![] bcast_S_S8192x8192 (constantI S_ 32 l)))
      (broadcastInDim S8192x8192 ![] bcast_S_S8192x8192 (constantI S_ 32 n)) j = (inject k k' q).2 :=
  inject_at' hb rfl rfl hk

/-- The last two rounds, the last key step and the shift that leaves twenty-three bits. -/
theorem lastBits_at (hc : c j = q.1 + q.2) (hb : b j = q.2) :
    let q' := inject 161448894#32 2247515018#32 (mix 6#32 26#32 q)
    lastBits b c j = (q'.1 ^^^ q'.2) >>> 9#32 := by
  have h : _ = (inject 161448894#32 2247515018#32 (mix 6#32 26#32 q)).2 :=
    key (l := 2247515013#32) (n := 5#32) (turn (r := 6#32) (r' := 26#32) hc hb (by decide) (by decide)) (by decide)
  refine hostShrui_at ?_ rfl (by decide)
  show (c j + 161448894#32) ^^^ (addi (addi (xori _ c) _) _ j) = _
  rw [h, hc]; rfl
end

/-- The reference's random bits at an index are the cipher's at the counter there. -/
theorem refBits_at (V0 : Valuation τ sig (Elt F)) (j : S8192x8192.Idx) :
    lastBits (res_main_v187 V0) (res_main_v188 V0) j = bits (word j) := by
  have b0 : res_main_v30 V0 j = (start (word j)).2 := rfl
  have c0 : res_main_v31 V0 j = (start (word j)).1 + (start (word j)).2 := by
    show 0#32 + 2247515013#32 + res_main_v30 V0 j = _
    rw [b0]; rfl
  have b1 : res_main_v37 V0 j = (mix 13#32 19#32 _).2 := turn c0 b0 (by decide) (by decide)
  have c1 : res_main_v38 V0 j = _ := sum_at c0 b1
  have b2 : res_main_v44 V0 j = (mix 15#32 17#32 _).2 := turn c1 b1 (by decide) (by decide)
  have c2 : res_main_v45 V0 j = _ := sum_at c1 b2
  have b3 : res_main_v51 V0 j = (mix 26#32 6#32 _).2 := turn c2 b2 (by decide) (by decide)
  have c3 : res_main_v52 V0 j = _ := sum_at c2 b3
  have b4 : res_main_v64 V0 j = (inject 2545468385#32 161448895#32 (mix 6#32 26#32 _)).2 :=
    key (turn c3 b3 (by decide) (by decide)) (by decide)
  have c4 : res_main_v65 V0 j = _ := injectSum_at c3 rfl b4
  have b5 : res_main_v71 V0 j = (mix 17#32 15#32 _).2 := turn c4 b4 (by decide) (by decide)
  have c5 : res_main_v72 V0 j = _ := sum_at c4 b5
  have b6 : res_main_v78 V0 j = (mix 29#32 3#32 _).2 := turn c5 b5 (by decide) (by decide)
  have c6 : res_main_v79 V0 j = _ := sum_at c5 b6
  have b7 : res_main_v85 V0 j = (mix 16#32 16#32 _).2 := turn c6 b6 (by decide) (by decide)
  have c7 : res_main_v86 V0 j = _ := sum_at c6 b7
  have b8 : res_main_v98 V0 j = (inject 161448894#32 2247515015#32 (mix 24#32 8#32 _)).2 :=
    key (turn c7 b7 (by decide) (by decide)) (by decide)
  have c8 : res_main_v99 V0 j = _ := injectSum_at c7 rfl b8
  have b9 : res_main_v105 V0 j = (mix 13#32 19#32 _).2 := turn c8 b8 (by decide) (by decide)
  have c9 : res_main_v106 V0 j = _ := sum_at c8 b9
  have b10 : res_main_v112 V0 j = (mix 15#32 17#32 _).2 := turn c9 b9 (by decide) (by decide)
  have c10 : res_main_v113 V0 j = _ := sum_at c9 b10
  have b11 : res_main_v119 V0 j = (mix 26#32 6#32 _).2 := turn c10 b10 (by decide) (by decide)
  have c11 : res_main_v120 V0 j = _ := sum_at c10 b11
  have b12 : res_main_v132 V0 j = (inject 2247515013#32 2545468388#32 (mix 6#32 26#32 _)).2 :=
    key (turn c11 b11 (by decide) (by decide)) (by decide)
  have c12 : res_main_v133 V0 j = _ := injectSum_at c11 rfl b12
  have b13 : res_main_v139 V0 j = (mix 17#32 15#32 _).2 := turn c12 b12 (by decide) (by decide)
  have c13 : res_main_v140 V0 j = _ := sum_at c12 b13
  have b14 : res_main_v146 V0 j = (mix 29#32 3#32 _).2 := turn c13 b13 (by decide) (by decide)
  have c14 : res_main_v147 V0 j = _ := sum_at c13 b14
  have b15 : res_main_v153 V0 j = (mix 16#32 16#32 _).2 := turn c14 b14 (by decide) (by decide)
  have c15 : res_main_v154 V0 j = _ := sum_at c14 b15
  have b16 : res_main_v166 V0 j = (inject 2545468385#32 161448898#32 (mix 24#32 8#32 _)).2 :=
    key (turn c15 b15 (by decide) (by decide)) (by decide)
  have c16 : res_main_v167 V0 j = _ := injectSum_at c15 rfl b16
  have b17 : res_main_v173 V0 j = (mix 13#32 19#32 _).2 := turn c16 b16 (by decide) (by decide)
  have c17 : res_main_v174 V0 j = _ := sum_at c16 b17
  have b18 : res_main_v180 V0 j = (mix 15#32 17#32 _).2 := turn c17 b17 (by decide) (by decide)
  have c18 : res_main_v181 V0 j = _ := sum_at c17 b18
  have b19 : res_main_v187 V0 j = (mix 26#32 6#32 _).2 := turn c18 b18 (by decide) (by decide)
  have c19 : res_main_v188 V0 j = _ := sum_at c18 b19
  exact lastBits_at c19 b19

end Cert.ReferenceIdeal.Value

end
-- ==== Proof.RefCodes.lean ====
/- The reference's softmax, its argmax and the codes: where a row of scores is real, the codes hold one at its first best
   column and zero elsewhere. -/
module

public import proofs.«01_k».proof.Proof.RefRun
public import proofs.«01_k».proof.Proof.Rows

@[expose] public section

set_option Elab.async false

noncomputable section

namespace Cert.ReferenceIdeal.Value

open Cert.ReferenceIdeal Cert.ReferenceIdeal.Gen Cert.Best Cert.Rows Idealize.ShloMosaic Idealize.SL.Sem Idealize.ShloMosaic.StableHlo

/-- A vector with one entry a row, along the row. -/
def along {ε : Type} (v : S8192.Idx → ε) : S8192x8192.Idx → ε :=
  broadcastInDim S8192x8192 ![0, 1] bcast_S8192x1_S8192x8192_0_1 (broadcastInDim S8192x1 ![0] bcast_S8192_S8192x1_0 v)

theorem along_at {ε : Type} (v : S8192.Idx → ε) (r c : Fin 8192) : along v (ix2 r c) = v (ix1 r) := by
  unfold along
  rw [broadcastInDim_apply _ _ _ _ (ix2 r 0) (by intro b; match b with | ⟨0, _⟩ => rfl | ⟨1, _⟩ => rfl)]
  exact broadcastInDim_apply _ _ _ _ (ix1 r) (by intro b; match b with | ⟨0, _⟩ => rfl)

/-- The largest score of each row. -/
def top (z : FVec Ideal S8192x8192 .f32) : FVec Ideal S8192 .f32 :=
  maximumf (broadcastInDim S8192 ![] bcast_S_S8192 (constant S_ .f32 0xFF800000#32))
    (Host.reduce FloatOps.maximumf z (constant S_ .f32 0xFF800000#32) reducesTo_S8192x8192_S8192_d1 h_S_)

/-- The exponentials of the scores less the largest of the row. -/
def expo (z : FVec Ideal S8192x8192 .f32) : FVec Ideal S8192x8192 .f32 := Host.exp (subf z (along (top z)))

/-- The softmax. -/
def soft (z : FVec Ideal S8192x8192 .f32) : FVec Ideal S8192x8192 .f32 :=
  Host.divf (expo z) (along (Host.reduceAdd (expo z) (constant S_ .f32 0x00000000#32) reducesTo_S8192x8192_S8192_d1 h_S_))

/-- The largest entry of each row and its place. -/
def bests (y : FVec Ideal S8192x8192 .f32) : S8192.Idx → EReal × BitVec 32 :=
  Host.argReduce reducer_argmax_f32_i32 y (iotaInDim S8192x8192 32 1) (constant S_ .f32 0xFF800000#32) (constantI S_ 32 0#32)
    reducesTo_S8192x8192_S8192_d1 h_S_

/-- The places of such pairs. -/
def places (v : S8192.Idx → EReal × BitVec 32) : IVec S8192 32 := fun j => (v j).2

theorem places_at (v : S8192.Idx → EReal × BitVec 32) (j : S8192.Idx) : places v j = (v j).2 := rfl

/-- The argmax of each row. -/
def arg (y : FVec Ideal S8192x8192 .f32) : IVec S8192 32 := places (bests y)

/-- One at the argmax of each row, zero elsewhere, by way of the softmax `y`. -/
def oneHot (y : FVec Ideal S8192x8192 .f32) : FVec Ideal S8192x8192 .f32 :=
  subf (addf (uitofp .f32 (cmpi .eq (along (arg y))
    (broadcastInDim S8192x8192 ![0, 1] bcast_S1x8192_S8192x8192_0_1 (iotaInDim S1x8192 32 1)))) y) y

theorem codes_eq (V0 : Valuation τ sig (Elt Ideal)) : res_main_v236 V0 = oneHot (soft (res_main_v221 V0)) := rfl

section
variable {z : FVec Ideal S8192x8192 .f32} {r : Fin 8192} {b : Fin 8192}

theorem top_at (hb : IsBest (fun c => z (ix2 r c)) b) : top z (ix1 r) = z (ix2 r b) := by
  have h := reduceMax_at reducesTo_S8192x8192_S8192_d1 h_S_ z r (constant S_ .f32 0xFF800000#32) (bot_at _) hb
  unfold top
  rw [maximumf_at, h, ValueIdx.broadcastInDim_scalar_apply, bot_at, max_eq_right bot_le]

/-- The softmax of a real row: real, and in the order of the scores. -/
theorem soft_at {f : Fin 8192 → ℝ} (hz : ∀ c, z (ix2 r c) = (f c : EReal)) (hb : IsBest (fun c => z (ix2 r c)) b) :
    ∃ S : ℝ, 0 < S ∧ ∀ c, soft z (ix2 r c) = ((Real.exp (f c - f b) / S : ℝ) : EReal) := by
  have he : ∀ c, expo z (ix2 r c) = ((Real.exp (f c - f b) : ℝ) : EReal) := fun c => by
    unfold expo
    rw [exp_at, subf_at, along_at, top_at hb, hz, hz, ← EReal.coe_sub]
    rfl
  have hs : Host.reduceAdd (expo z) (constant S_ .f32 0x00000000#32) reducesTo_S8192x8192_S8192_d1 h_S_ (ix1 r)
      = ((∑ c, Real.exp (f c - f b) : ℝ) : EReal) := by
    rw [reduceAdd_at reducesTo_S8192x8192_S8192_d1 h_S_ (expo z) r _ (zero_at _), coe_sum]
    exact Finset.sum_congr rfl fun c _ => he c
  have hpos : 0 < ∑ c, Real.exp (f c - f b) := Finset.sum_pos (fun _ _ => Real.exp_pos _) ⟨b, Finset.mem_univ b⟩
  refine ⟨_, hpos, fun c => ?_⟩
  unfold soft
  rw [divf_at, along_at, hs, he, Ideal.div, if_neg (by exact_mod_cast hpos.ne'), ← EReal.coe_inv, ← EReal.coe_mul, div_eq_mul_inv]

/-- The argmax of a row is the word of its first best column. -/
theorem arg_at {y : FVec Ideal S8192x8192 .f32} (hbot : ⊥ < y (ix2 r b)) (hb : IsBest (fun c => y (ix2 r c)) b) :
    arg y (ix1 r) = BitVec.ofNat 32 b.val := by
  have h : bests y (ix1 r) = (y (ix2 r b), BitVec.ofNat 32 b.val) :=
    argReduce_at reducesTo_S8192x8192_S8192_d1 h_S_ y r (iotaInDim S8192x8192 32 1) (fun c => iota_at r c) (by norm_num)
      (constant S_ .f32 0xFF800000#32) (bot_at _) (constantI S_ 32 0#32) hbot hb
  unfold arg
  rw [places_at, h]

/-- The codes of a real row: one at its first best column. -/
theorem oneHot_at {f : Fin 8192 → ℝ} (hz : ∀ c, z (ix2 r c) = (f c : EReal)) (hb : IsBest (fun c => z (ix2 r c)) b)
    (c : Fin 8192) : oneHot (soft z) (ix2 r c) = if c = b then 1 else 0 := by
  obtain ⟨S, hS, hs⟩ := soft_at hz hb
  have hb' : IsBest (fun c => soft z (ix2 r c)) b := fun j => by
    have h := hb j
    simp only [hz, EReal.coe_le_coe_iff, EReal.coe_lt_coe_iff] at h
    simp only [hs, EReal.coe_le_coe_iff, EReal.coe_lt_coe_iff]
    refine ⟨?_, fun hj => ?_⟩
    · exact (div_le_div_iff_of_pos_right hS).2 (Real.exp_le_exp.2 (by linarith [h.1]))
    · exact (div_lt_div_iff_of_pos_right hS).2 (Real.exp_lt_exp.2 (by linarith [h.2 hj]))
  have hw : along (arg (soft z)) (ix2 r c) = BitVec.ofNat 32 b.val := by
    rw [along_at]
    exact arg_at (by rw [hs]; exact EReal.bot_lt_coe _) hb'
  have hi : broadcastInDim S8192x8192 ![0, 1] bcast_S1x8192_S8192x8192_0_1 (iotaInDim S1x8192 32 1) (ix2 r c)
      = BitVec.ofNat 32 c.val :=
    broadcastInDim_apply _ _ (iotaInDim S1x8192 32 1) _ (ix2 0 c) (by intro b; match b with | ⟨0, _⟩ => rfl | ⟨1, _⟩ => rfl)
  have hcb : BitVec.ofNat 32 b.val = BitVec.ofNat 32 c.val ↔ c = b := by
    rw [WordCmp.ofNat_eq_ofNat_iff (lt_trans b.isLt (by norm_num)) (lt_trans c.isLt (by norm_num)), Fin.ext_iff, eq_comm]
  unfold oneHot
  rw [subf_at, addf_at, equal_at, hw, hi, hs]
  simp only [hcb]
  split
  · rw [← EReal.coe_one, ← EReal.coe_add, ← EReal.coe_sub, add_sub_cancel_right]
  · rw [← EReal.coe_zero, ← EReal.coe_add, ← EReal.coe_sub, add_sub_cancel_right]
end

end Cert.ReferenceIdeal.Value

end
-- ==== Proof.RefScores.lean ====
/- The reference's scores are the plain ones, at every index. -/
module

public import proofs.«01_k».proof.Proof.RefWords
public import proofs.«01_k».proof.Proof.RefCodes
public import proofs.«01_k».proof.Proof.Model

@[expose] public section

set_option Elab.async false

noncomputable section

namespace Cert.ReferenceIdeal.Value

open Cert.ReferenceIdeal Cert.ReferenceIdeal.Gen Cert.Best Cert.Rows Cert.Model Idealize.ShloMosaic Idealize.SL.Sem Idealize.ShloMosaic.StableHlo

/-- A number everywhere. -/
def splat (w : BitVec 32) : FVec Ideal S8192x8192 .f32 := broadcastInDim S8192x8192 ![] bcast_S_S8192x8192 (constant S_ .f32 w)

theorem splat_at (w : BitVec 32) (j : S8192x8192.Idx) : splat w j = Ideal.ofBits .f32 w :=
  ValueIdx.broadcastInDim_scalar_apply _ _ _

/-- A vector with one entry a column, down the columns. -/
def down {ε : Type} (v : S8192.Idx → ε) : S8192x8192.Idx → ε :=
  broadcastInDim S8192x8192 ![0, 1] bcast_S1x8192_S8192x8192_0_1 (broadcastInDim S1x8192 ![1] bcast_S8192_S1x8192_1 v)

theorem down_at {ε : Type} (v : S8192.Idx → ε) (r c : Fin 8192) : down v (ix2 r c) = v (ix1 c) := by
  unfold down
  rw [broadcastInDim_apply _ _ _ _ (ix2 0 c) (by intro b; match b with | ⟨0, _⟩ => rfl | ⟨1, _⟩ => rfl)]
  exact broadcastInDim_apply _ _ _ _ (ix1 c) (by intro b; match b with | ⟨0, _⟩ => rfl)

/-- The sums of the squares of the rows. -/
def squares (X : FVec Ideal S8192x32 .f32) : FVec Ideal S8192 .f32 :=
  Host.reduceAdd (mulf X X) (constant S_ .f32 0x00000000#32) reducesTo_S8192x32_S8192_d1 h_S_

theorem squares_at (X : FVec Ideal S8192x32 .f32) (r : Fin 8192) : squares X (ix1 r) = inner X X r r :=
  reduceAdd_at reducesTo_S8192x32_S8192_d1 h_S_ (mulf X X) r _ (zero_at _)

/-- The inner products of the rows. -/
def inners (X C : FVec Ideal S8192x32 .f32) : FVec Ideal S8192x8192 .f32 :=
  Host.dotGeneral dot_S8192x32_S32x8192_S8192x8192_1_0_0_1_n_n none X
    (transpose S32x8192 [1, 0] C transposes_S8192x32_S32x8192_1_0)

theorem inners_at (X C : FVec Ideal S8192x32 .f32) (r c : Fin 8192) : inners X C (ix2 r c) = inner X C r c := by
  refine (dotGeneral_at none X _ r c).trans ?_
  exact Finset.sum_congr rfl fun k _ => congrArg (X (ix2 r k) * ·) (transpose_at C _ k c)

/-- The distances. -/
def dists (X C : FVec Ideal S8192x32 .f32) : FVec Ideal S8192x8192 .f32 :=
  Host.sqrt (maximumf (subf (addf (along (squares X)) (down (squares C))) (mulf (splat 0x40000000#32) (inners X C)))
    (splat 0x00000000#32))

theorem dists_at (X C : FVec Ideal S8192x32 .f32) (r c : Fin 8192) : dists X C (ix2 r c) = dist X C r c := by
  unfold dists
  rw [sqrt_at, maximumf_at, subf_at, addf_at, mulf_at, along_at, down_at, splat_at, splat_at, squares_at, squares_at, inners_at,
    Ideal.ofBits_zero_f32]
  rfl

/-- The uniform variables, from the random bits. -/
def unis (w : IVec S8192x8192 32) : FVec Ideal S8192x8192 .f32 :=
  addf (mulf (subf (bitcastToFloat .f32 (ori w (broadcastInDim S8192x8192 ![] bcast_S_S8192x8192 (constantI S_ 32 1065353216#32))))
    (splat 0x3F800000#32)) (splat 0x3F800000#32)) (splat 0x3089705F#32)

theorem unis_at (w : IVec S8192x8192 32) (j : S8192x8192.Idx) : unis w j = Noise.uni (w j) := by
  unfold unis
  rw [addf_at, mulf_at, subf_at, splat_at, splat_at, Ideal.ofBits_one_f32, mul_one]
  rfl

/-- The noise, from the random bits. -/
def gumbels (w : IVec S8192x8192 32) : FVec Ideal S8192x8192 .f32 :=
  Host.negf (Host.log (Host.negf (Host.log (maximumf (splat 0x3089705F#32) (unis w)))))

theorem gumbels_at (w : IVec S8192x8192 32) (j : S8192x8192.Idx) (hw : (w j).toNat < 2 ^ 23) :
    gumbels w j = Noise.gumbel (w j) := by
  unfold gumbels
  rw [negf_at, log_at, negf_at, log_at, maximumf_at, splat_at, unis_at]
  show -Ideal.log (-Ideal.log (max Noise.eps _)) = _
  rw [Noise.max_eps_uni hw]
  rfl

theorem div_one (x : EReal) : Ideal.div x 1 = x := by
  unfold Ideal.div
  rw [if_neg one_ne_zero, ← EReal.coe_one, ← EReal.coe_inv, inv_one, EReal.coe_one, mul_one]

/-- The scores. -/
def scores (d g : FVec Ideal S8192x8192 .f32) : FVec Ideal S8192x8192 .f32 :=
  Host.divf (addf (Host.divf (Host.negf d) (splat 0x3F800000#32)) g) (splat 0x3F800000#32)

theorem scores_at (d g : FVec Ideal S8192x8192 .f32) (j : S8192x8192.Idx) : scores d g j = (g j : EReal) - d j := by
  unfold scores
  rw [divf_at, addf_at, divf_at, negf_at, splat_at, Ideal.ofBits_one_f32, div_one, div_one, add_comm, sub_eq_add_neg]

variable (V0 : Valuation τ sig (Elt Ideal))

/-- The two arguments as rows. -/
def inputs : FVec Ideal S8192x32 .f32 := res_main_v0 V0
def codebook : FVec Ideal S8192x32 .f32 := V0 (Proc.devRef .tc main_arg1)

theorem scores_eq : res_main_v221 V0
    = scores (dists (inputs V0) (codebook V0)) (gumbels (lastBits (res_main_v187 V0) (res_main_v188 V0))) := rfl

/-- The reference's scores are the plain ones. -/
theorem refScore_at (r c : Fin 8192) : res_main_v221 V0 (ix2 r c) = score (inputs V0) (codebook V0) r c := by
  have hb : lastBits (res_main_v187 V0) (res_main_v188 V0) (ix2 r c) = Words.bits (number r.val c.val) := refBits_at V0 _
  rw [scores_eq, scores_at, dists_at, gumbels_at _ _ (by rw [hb]; exact Noise.bits_lt _), hb]
  rfl

/-- For real arguments the reference's codes are the plain ones. -/
theorem refCode_at (hX : IsReal (inputs V0)) (hC : IsReal (codebook V0)) (r c : Fin 8192) :
    res_main_v236 V0 (ix2 r c) = code (inputs V0) (codebook V0) r c := by
  choose f hf using score_real hX hC r
  have hs : ∀ c, res_main_v221 V0 (ix2 r c) = (f c : EReal) := fun c => (refScore_at V0 r c).trans (hf c)
  have hb : IsBest (fun c => res_main_v221 V0 (ix2 r c)) (best (inputs V0) (codebook V0) r) := by
    rw [show (fun c => res_main_v221 V0 (ix2 r c)) = score (inputs V0) (codebook V0) r from funext (refScore_at V0 r)]
    exact best_isBest (inputs V0) (codebook V0) r
  rw [codes_eq]
  exact oneHot_at hs hb c

end Cert.ReferenceIdeal.Value

end
-- ==== Proof.RefLoss.lean ====
/- The reference's loss, for real arguments: the sum of the squared errors, by 1.25 over the number of entries. -/
module

public import proofs.«01_k».proof.Proof.RefScores

@[expose] public section

set_option Elab.async false

noncomputable section

namespace Cert.ReferenceIdeal.Value

open Cert.ReferenceIdeal Cert.ReferenceIdeal.Gen Cert.Best Cert.Rows Cert.Model Idealize.ShloMosaic Idealize.SL.Sem Idealize.ShloMosaic.StableHlo

/-- The mean of the squares. -/
def meanSquare (x : FVec Ideal S8192x32 .f32) : FVec Ideal S_ .f32 :=
  Host.divf (Host.reduceAdd (mulf x x) (constant S_ .f32 0x00000000#32) reducesTo_S8192x32_S_d0_1 h_S_)
    (constant S_ .f32 0x48800000#32)

theorem count_eq : Ideal.ofBits .f32 0x48800000#32 = ((262144 : ℝ) : EReal) := by
  simp [Ideal.ofBits, Ideal.ieee]
  rw [← EReal.coe_mul]
  norm_num

theorem quarter_eq : Ideal.ofBits .f32 0x3E800000#32 = ((1 / 4 : ℝ) : EReal) := by
  simp [Ideal.ofBits, Ideal.ieee]
  rw [← EReal.coe_mul]
  norm_num

theorem meanSquare_at (x : FVec Ideal S8192x32 .f32) (e : Fin 8192 → Fin 32 → ℝ)
    (h : ∀ r k, (x (ix2 r k) : EReal) * x (ix2 r k) = ((e r k * e r k : ℝ) : EReal)) (j : S_.Idx) :
    meanSquare x j = (((∑ r, ∑ k, e r k * e r k) / 262144 : ℝ) : EReal) := by
  have hs : Host.reduceAdd (mulf x x) (constant S_ .f32 0x00000000#32) reducesTo_S8192x32_S_d0_1 h_S_ j
      = ((∑ r, ∑ k, e r k * e r k : ℝ) : EReal) := by
    refine (Ideal.hostReduceAdd_r2_a01 reducesTo_S8192x32_S_d0_1 (mulf x x) _ j).trans ?_
    rw [zero_at, zero_add, coe_sum]
    refine Finset.sum_congr rfl fun r _ => ?_
    rw [coe_sum]
    exact Finset.sum_congr rfl fun k _ => h r k
  unfold meanSquare
  rw [divf_at, hs]
  show Ideal.div _ (Ideal.ofBits .f32 0x48800000#32) = _
  rw [count_eq, Ideal.div, if_neg (by norm_num), ← EReal.coe_inv, ← EReal.coe_mul, div_eq_mul_inv]

variable (V0 : Valuation τ sig (Elt Ideal))

/-- The loss. -/
def loss : FVec Ideal S_ .f32 :=
  addf (meanSquare (res_main_v238 V0)) (mulf (constant S_ .f32 0x3E800000#32) (meanSquare (res_main_v243 V0)))

/-- The codes times the codebook, at an index. -/
theorem quantized_at (hX : IsReal (inputs V0)) (hC : IsReal (codebook V0)) (r : Fin 8192) (k : Fin 32) :
    Host.dotGeneral dot_S8192x8192_S8192x32_S8192x32_1_0_0_1_n_n none (res_main_v236 V0) (codebook V0) (ix2 r k)
      = codebook V0 (ix2 (best (inputs V0) (codebook V0) r) k) := by
  refine (dotGeneral_at none (res_main_v236 V0) (codebook V0) r k).trans ?_
  refine (Finset.sum_congr rfl fun c _ => congrArg (· * (codebook V0 (ix2 c k) : EReal)) (refCode_at V0 hX hC r c)).trans ?_
  exact sum_code _ _ r k

theorem loss_at (hX : IsReal (inputs V0)) (hC : IsReal (codebook V0)) (e : Fin 8192 → Fin 32 → ℝ)
    (he : ∀ r k, err (inputs V0) (codebook V0) r k = (e r k : EReal)) (j : S_.Idx) :
    loss V0 j = (((∑ r, ∑ k, e r k * e r k) * (5 / 1048576) : ℝ) : EReal) := by
  have h1 : ∀ r k, res_main_v238 V0 (ix2 r k) = (e r k : EReal) := fun r k => by
    refine Eq.trans ?_ (he r k)
    exact congrArg (· - (inputs V0 (ix2 r k) : EReal)) (quantized_at V0 hX hC r k)
  have h2 : ∀ r k, res_main_v243 V0 (ix2 r k) = ((-(e r k) : ℝ) : EReal) := fun r k => by
    obtain ⟨x, hx⟩ := hX (ix2 r k)
    obtain ⟨y, hy⟩ := hC (ix2 (best (inputs V0) (codebook V0) r) k)
    have hxy : y - x = e r k := by
      have := he r k
      rw [err, hx, hy, ← EReal.coe_sub] at this
      exact_mod_cast this
    refine (congrArg ((inputs V0 (ix2 r k) : EReal) - ·) (quantized_at V0 hX hC r k)).trans ?_
    rw [hx, hy, ← EReal.coe_sub, ← hxy, neg_sub]
  unfold loss
  rw [addf_at, mulf_at, meanSquare_at _ e (fun r k => by rw [h1, EReal.coe_mul]),
    meanSquare_at _ e (fun r k => by rw [h2, ← EReal.coe_mul, neg_mul_neg])]
  show _ + Ideal.ofBits .f32 0x3E800000#32 * _ = _
  rw [quarter_eq, ← EReal.coe_mul, ← EReal.coe_add]
  congr 1
  ring

end Cert.ReferenceIdeal.Value

end
-- ==== Proof.Equation.lean ====
/- The equation: for real arguments the kernel's results are the reference's. -/
module

public import proofs.«01_k».proof.Proof.KernelLoss
public import proofs.«01_k».proof.Proof.RefLoss
public import proofs.«01_k».proof.Proof.RefRun

@[expose] public section

set_option Elab.async false

noncomputable section

namespace Cert.Equation

open Cert.Model Idealize.ShloMosaic Idealize.ShloMosaic.TcCoe Idealize.SL.Sem Idealize.ShloMosaic.StableHlo

section
open Cert.KernelIdeal Cert.KernelIdeal.Gen
variable (m : (ℓ : Loc nD τ sig) → Buf (Elt Ideal) ℓ) (c : Dev nD)

/-- The loss the kernel ends with. -/
def loss : FVec Ideal S_ .f32 :=
  shapeCast S_ (Host.reduceAdd (Arrays.parts m c) (constant (F := Ideal) S_ .f32 0x00000000#32) reducesTo_S64x1x1_S_d0_1_2 h_S_)
    shapeCasts_S_S_

/-- The kernel run to its end. -/
theorem kernelRun (ρ : Dev nD → PrngReg) :
    θ_run defs (onTc (τ := τ) (main (F := Ideal))) ⟨m, fun _ => 0, ρ⟩ fun r => ∀ c : Dev nD,
      r.2.mem ((c.tc : Thread nD τ).loc main_v13_0) = Arrays.codes m c
      ∧ r.2.mem ((c.tc : Thread nD τ).loc main_v15) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.KernelIdeal.Value.run m ρ)
  obtain ⟨h0, h1, h2, h3⟩ := h c
  refine ⟨h0.trans (Arrays.final6 m c), h1.trans ?_, h2, h3⟩
  unfold loss
  rw [← Arrays.final7 m c]
  rfl

/-- Real arguments, as rows. -/
theorem inputs_real (h : ∀ i, ∃ x : ℝ, m ((c.tc : Thread nD τ).loc main_arg0) i = (x : EReal)) : IsReal (Entry.inputs m c) :=
  fun _ => h _
end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arguments agree, so the rows and the codebook do. -/
theorem inputs_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.inputs (launchContents m' c) = Cert.KernelIdeal.Entry.inputs m c :=
  congrArg (fun x : FVec Ideal Cert.KernelIdeal.S8x1024x32 .f32 =>
    shapeCast Cert.KernelIdeal.S8192x32 x Cert.KernelIdeal.Gen.shapeCasts_S8x1024x32_S8192x32) h

theorem codebook_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.codebook (launchContents m' c) = Cert.KernelIdeal.Entry.codebook m c := h

section
variable (hX : IsReal (Cert.KernelIdeal.Entry.inputs m c)) (hC : IsReal (Cert.KernelIdeal.Entry.codebook m c))
  (h0 : Cert.ReferenceIdeal.Value.inputs (launchContents m' c) = Cert.KernelIdeal.Entry.inputs m c)
  (h1 : Cert.ReferenceIdeal.Value.codebook (launchContents m' c) = Cert.KernelIdeal.Entry.codebook m c)
include hX hC h0 h1

/-- The codes agree, -/
theorem codes_eq : Cert.ReferenceIdeal.Value.res_main_v236 (launchContents m' c) = Cert.KernelIdeal.Arrays.codes m c := by
  funext j
  rw [eq_ix2 (n0 := 8192) (n1 := 8192) j]
  refine (Cert.ReferenceIdeal.Value.refCode_at (launchContents m' c) (h0 ▸ hX) (h1 ▸ hC) (j 0) (j 1)).trans ?_
  rw [h0, h1]
  rfl

/-- and the losses. -/
theorem loss_eq : Cert.ReferenceIdeal.Value.loss (launchContents m' c) = loss m c := by
  choose e he using err_real hX hC
  funext j
  refine (Cert.ReferenceIdeal.Value.loss_at (launchContents m' c) (h0 ▸ hX) (h1 ▸ hC) e (fun r k => ?_) j).trans
    (Cert.KernelIdeal.Arrays.loss_at m c e he j).symm
  rw [h0, h1]
  exact he r k
end

end Cert.Equation

end
-- ==== Proof.Finite.lean ====
/- The precondition: arguments with no infinite entry are real. -/
module

public import proofs.«01_k».proof.Pre_finite
public import proofs.«01_k».proof.Proof.Model

@[expose] public section

noncomputable section

namespace Cert.Finite

open Cert.Pre_finite Idealize.ShloMosaic

/-- The side conditions of the precondition's program. -/
theorem facts : Cert.Pre_finite.Facts where
  bcast_S_S8x1024x32 := by decide
  bcast_S_S8192x32 := by decide

theorem infinity_eq : Ideal.ofBits .f32 0x7F800000#32 = ⊤ := by simp [Ideal.ofBits, Ideal.ieee]

/-- A value below infinity in absolute value is real. -/
theorem real_of_abs_lt {x : EReal} (h : max x (-x) < ⊤) : ∃ y : ℝ, x = (y : EReal) := by
  induction x with
  | bot => exact absurd h (by simp)
  | coe y => exact ⟨y, rfl⟩
  | top => exact absurd h (by simp)

/-- An array that passes the comparison with infinity is real everywhere. -/
theorem real_of_passes {s u : Shape} {dims : Fin u.rank → Fin s.rank} (hb : u.BroadcastsInDim s dims) (x : FVec Ideal s .f32)
    (h : cmpf .olt (Host.absf x) (broadcastInDim s dims hb (constant u .f32 0x7F800000#32)) = fun _ => 1#1) (i : s.Idx) :
    ∃ y : ℝ, x i = (y : EReal) := by
  refine real_of_abs_lt ?_
  have h1 : BitVec.ofBool (decide (max (x i : EReal) (-(x i : EReal)) < Ideal.ofBits .f32 0x7F800000#32)) = 1#1 := congrFun h i
  rw [WordCmp.ofBool_decide_eq_one_iff, infinity_eq] at h1
  exact h1

variable [Facts]

theorem real_first (x : FVec Ideal S8x1024x32 .f32) (y : FVec Ideal S8192x32 .f32) (h : (fn x y).1 = fun _ => 1#1)
    (i : S8x1024x32.Idx) : ∃ z : ℝ, x i = (z : EReal) := real_of_passes Facts.bcast_S_S8x1024x32 x h i

theorem real_second (x : FVec Ideal S8x1024x32 .f32) (y : FVec Ideal S8192x32 .f32) (h : (fn x y).2 = fun _ => 1#1)
    (i : S8192x32.Idx) : ∃ z : ℝ, y i = (z : EReal) := real_of_passes Facts.bcast_S_S8192x32 y h i

end Cert.Finite

end
-- ==== Proof.lean ====
/- The claim: each program's frame, and the equation of the idealized kernel's two results with the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run read at the arguments; it declares no semaphore. -/
theorem referenceFrame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- For real arguments the idealized kernel and the reference end with the same codes and the same loss. -/
theorem algebraic [Cert.Pre_finite.Facts] : Cert.algebraic_KernelIdeal_ReferenceIdeal_pre_finite := by
  intro m ρ m' ρ' hpre hagree
  refine ⟨fun c => Cert.KernelIdeal.Arrays.codes m c, fun c => Cert.Equation.loss m c, Cert.Equation.kernelRun m ρ, ?_⟩
  refine (θ_run Cert.ReferenceIdeal.defs _ _).mono (fun r h c => ?_) (Cert.ReferenceIdeal.Value.run (F := Ideal) m' ρ')
  have hX := Cert.Equation.inputs_real m c (Cert.Finite.real_first _ _ (hpre c).1)
  have hC : Cert.Model.IsReal (Cert.KernelIdeal.Entry.codebook m c) := Cert.Finite.real_second _ _ (hpre c).2
  have h0 := Cert.Equation.inputs_eq m m' c (hagree c).1
  have h1 := Cert.Equation.codebook_eq m m' c (hagree c).2
  exact ⟨(h c).1.trans (Cert.Equation.codes_eq m m' c hX hC h0 h1),
    (h c).2.1.trans (Cert.Equation.loss_eq m m' c hX hC h0 h1), (h c).2.2.1, (h c).2.2.2⟩

theorem claim : Cert.Claim :=
  ⟨Cert.Kernel.Gen.facts, Cert.KernelIdeal.Gen.facts, Cert.ReferenceIdeal.Gen.facts, Cert.Finite.facts,
    fun m ρ _ => Cert.Kernel.Gen.frame m ρ,
    fun m ρ _ => Cert.KernelIdeal.Gen.frame m ρ,
    fun m ρ _ => Cert.KernelIdeal.Gen.frame m ρ,
    fun m ρ _ => referenceFrame m ρ,
    fun m ρ _ => referenceFrame m ρ,
    trivial,
    @algebraic Cert.Finite.facts⟩

end Cert.Proof

end
